-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x2048 : Shape := ⟨2, ![16384, 2048]⟩
abbrev S16384 : Shape := ⟨1, ![16384]⟩
abbrev S15x2048 : Shape := ⟨2, ![15, 2048]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S15x2048 : S_.BroadcastsInDim S15x2048 (![] : Fin 0 → Fin S15x2048.rank)
  reducesTo_S15x2048_S_d0_1 : S15x2048.ReducesTo [0, 1] S_

variable [Facts]

def fn_part1 {F : FTy → Type} [FloatOps F] (main_v6 : IVec S_ 1) (main_v15 : IVec S_ 1) : IVec S_ 1 :=
  let main_v16 : IVec S_ 1 := andi main_v6 main_v15
  main_v16

def fn {F : FTy → Type} [FloatOps F] (main_arg0 : FVec F S16384x2048 .f32) (main_arg1 : IVec S16384 32) (main_arg2 : FVec F S15x2048 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 14#32
  let main_v3 : IVec S16384 32 := broadcastInDim S16384 ![] bcast_S_S16384 main_c_1
  let main_v4 : IVec S16384 1 := cmpi .sle main_arg1 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_v7 : FVec F S16384x2048 .f32 := Host.absf main_arg0
  let main_cst : FVec F S_ .f32 := constant S_ .f32 0x7F800000#32
  let main_v8 : FVec F S16384x2048 .f32 := broadcastInDim S16384x2048 ![] bcast_S_S16384x2048 main_cst
  let main_v9 : IVec S16384x2048 1 := cmpf .olt main_v7 main_v8
  let main_c_3 : IVec S_ 1 := constantI S_ 1 1#1
  let main_v10 : IVec S_ 1 := (fun x v => Host.reduce IntOp.andi x v reducesTo_S16384x2048_S_d0_1 h_S_) main_v9 main_c_3
  let main_v11 : FVec F S15x2048 .f32 := Host.absf main_arg2
  let main_cst_4 : FVec F S_ .f32 := constant S_ .f32 0x7F800000#32
  let main_v12 : FVec F S15x2048 .f32 := broadcastInDim S15x2048 ![] bcast_S_S15x2048 main_cst_4
  let main_v13 : IVec S15x2048 1 := cmpf .olt main_v11 main_v12
  let main_c_5 : IVec S_ 1 := constantI S_ 1 1#1
  let main_v14 : IVec S_ 1 := (fun x v => Host.reduce IntOp.andi x v reducesTo_S15x2048_S_d0_1 h_S_) main_v13 main_c_5
  let main_v15 : IVec S_ 1 := andi main_v10 main_v14
  fn_part1 (F := F) main_v6 main_v15
-- ==== Kernel.lean ====
abbrev S16384x2048 : Shape := ⟨2, ![16384, 2048]⟩
abbrev S16384 : Shape := ⟨1, ![16384]⟩
abbrev S15x2048 : Shape := ⟨2, ![15, 2048]⟩
abbrev S2x8192x2048 : Shape := ⟨3, ![2, 8192, 2048]⟩
abbrev S2x8x1024x1 : Shape := ⟨4, ![2, 8, 1024, 1]⟩
abbrev S1x1 : Shape := ⟨2, ![1, 1]⟩
abbrev S1x1024x2048 : Shape := ⟨3, ![1, 1024, 2048]⟩
abbrev S1x1x1024x1 : Shape := ⟨4, ![1, 1, 1024, 1]⟩
abbrev S15x1 : Shape := ⟨2, ![15, 1]⟩
abbrev S15 : Shape := ⟨1, ![15]⟩
abbrev S1024x2048 : Shape := ⟨2, ![1024, 2048]⟩
abbrev S1024x1 : Shape := ⟨2, ![1024, 1]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩
abbrev S1024x32 : Shape := ⟨2, ![1024, 32]⟩
abbrev S32 : Shape := ⟨1, ![32]⟩
abbrev S1x32 : Shape := ⟨2, ![1, 32]⟩
abbrev S32x2048 : Shape := ⟨2, ![32, 2048]⟩
abbrev S32x1 : Shape := ⟨2, ![32, 1]⟩
abbrev S1x15x2048 : Shape := ⟨3, ![1, 15, 2048]⟩
abbrev S_ : Shape := ⟨0, ![]⟩

abbrev nBuf : Space → Nat
  | .hbm => 8
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S15x2048, .f32⟩
  | .hbm, ⟨3, _⟩ => ⟨S2x8192x2048, .f32⟩
  | .hbm, ⟨4, _⟩ => ⟨S2x8x1024x1, .i32⟩
  | .hbm, ⟨5, _⟩ => ⟨S1x1, .f32⟩
  | .hbm, ⟨6, _⟩ => ⟨S15x2048, .f32⟩
  | .hbm, ⟨7, _⟩ => ⟨S_, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x1024x1, .i32⟩
  | .local _ .vmem, ⟨5, _⟩ => ⟨S1x1x1024x1, .i32⟩
  | .local _ .vmem, ⟨6, _⟩ => ⟨S1x1x1024x1, .i32⟩
  | .local _ .vmem, ⟨7, _⟩ => ⟨S1x1x1024x1, .i32⟩
  | .local _ .vmem, ⟨8, _⟩ => ⟨S15x2048, .f32⟩
  | .local _ .vmem, ⟨9, _⟩ => ⟨S1x1, .f32⟩
  | .local _ .vmem, ⟨10, _⟩ => ⟨S15x2048, .f32⟩
  | .local _ .vmem, ⟨11, _⟩ => ⟨S15x2048, .f32⟩
  | .local _ .vmem, ⟨12, _⟩ => ⟨S15x2048, .f32⟩
  | .local _ .vmem, ⟨13, _⟩ => ⟨S15x2048, .f32⟩
  | .local _ .vmem, ⟨14, _⟩ => ⟨S15x2048, .f32⟩
  | .local _ .vmem, ⟨15, _⟩ => ⟨S1x1, .f32⟩
  | .local _ .vmem, ⟨16, _⟩ => ⟨S15x1, .f32⟩
  | .local _ .vmem, ⟨17, _⟩ => ⟨S15x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v159 : BitVec 1 := Scalar.cmpi .eq arg0 c7_i32
  let v160 : BitVec 32 := Scalar.extui v159
  let c0_i32_72 : BitVec 32 := 0#32
  let v161 : BitVec 1 := Scalar.cmpi .ne v160 c0_i32_72
  v161

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S15x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S15x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16384x2048 : Shape := ⟨2, ![16384, 2048]⟩
abbrev S16384 : Shape := ⟨1, ![16384]⟩
abbrev S15x2048 : Shape := ⟨2, ![15, 2048]⟩
abbrev S21 : Shape := ⟨1, ![21]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 97
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S15x2048, .f32⟩
  | .hbm, ⟨3, _⟩ => ⟨S21, .i32⟩
  | .hbm, ⟨4, _⟩ => ⟨S_, .i32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S1, .i32⟩
  | .hbm, ⟨25, _⟩ => ⟨S_, .i32⟩
  | .hbm, ⟨26, _⟩ => ⟨S16384x1, .i32⟩
  | .hbm, ⟨27, _⟩ => ⟨S16384x1, .i1⟩
  | .hbm, ⟨28, _⟩ => ⟨S1x1, .i32⟩
  | .hbm, ⟨29, _⟩ => ⟨S16384x1, .i32⟩
  | .hbm, ⟨30, _⟩ => ⟨S16384x1, .i1⟩
  | .hbm, ⟨31, _⟩ => ⟨S16384x1, .i1⟩
  | .hbm, ⟨32, _⟩ => ⟨S_, .i1⟩
  | .hbm, ⟨33, _⟩ => ⟨S16384, .i1⟩
  | .hbm, ⟨34, _⟩ => ⟨S16384x2048, .f32⟩
  | .hbm, ⟨35, _⟩ => ⟨S16384x2048, .i1⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S_, .f32⟩
  | .hbm, ⟨55, _⟩ => ⟨S16384, .f32⟩
  | .hbm, ⟨56, _⟩ => ⟨S_, .f32⟩
  | .hbm, ⟨57, _⟩ => ⟨S16384, .f32⟩
  | .hbm, ⟨58, _⟩ => ⟨S16384, .f32⟩
  | .hbm, ⟨59, _⟩ => ⟨S16384x1, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S16384x2048, .f32⟩
  | .hbm, ⟨83, _⟩ => ⟨S16384x2048, .f32⟩
  | .hbm, ⟨84, _⟩ => ⟨S_, .f32⟩
  | .hbm, ⟨85, _⟩ => ⟨S16384x2048, .f32⟩
  | .hbm, ⟨86, _⟩ => ⟨S16384x2048, .f32⟩
  | .hbm, ⟨87, _⟩ => ⟨S16384x2048, .f32⟩
  | .hbm, ⟨88, _⟩ => ⟨S_, .i32⟩
  | .hbm, ⟨89, _⟩ => ⟨S16384, .i32⟩
  | .hbm, ⟨90, _⟩ => ⟨S16384, .i1⟩
  | .hbm, ⟨91, _⟩ => ⟨S_, .i32⟩
  | .hbm, ⟨92, _⟩ => ⟨S16384, .i32⟩
  | .hbm, ⟨93, _⟩ => ⟨S16384, .i32⟩
  | .hbm, ⟨94, _⟩ => ⟨S16384, .i32⟩
  | .hbm, ⟨95, _⟩ => ⟨S16384x1, .i32⟩
  | .hbm, ⟨96, _⟩ => ⟨S15x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_c_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v9 : Ref sig .tc := ⟨.hbm, 38, rfl⟩
abbrev main_call1_cst : Ref sig .tc := ⟨.hbm, 39, rfl⟩
abbrev main_call1_v0 : Ref sig .tc := ⟨.hbm, 40, rfl⟩
abbrev main_call1_cst_0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_cst_1 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_v10 : Ref sig .tc := ⟨.hbm, 53, rfl⟩
abbrev main_cst : Ref sig .tc := ⟨.hbm, 54, rfl⟩
abbrev main_v11 : Ref sig .tc := ⟨.hbm, 55, rfl⟩
abbrev main_cst_3 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_cst_4 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_cst_5 : Ref sig .tc := ⟨.hbm, 71, rfl⟩
abbrev main_v25 : Ref sig .tc := ⟨.hbm, 72, rfl⟩
abbrev main_cst_6 : Ref sig .tc := ⟨.hbm, 73, rfl⟩
abbrev main_v26 : Ref sig .tc := ⟨.hbm, 74, rfl⟩
abbrev main_cst_7 : Ref sig .tc := ⟨.hbm, 75, rfl⟩
abbrev main_cst_8 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v27 : Ref sig .tc := ⟨.hbm, 80, rfl⟩
abbrev main_cst_9 : Ref sig .tc := ⟨.hbm, 81, rfl⟩
abbrev main_v28 : Ref sig .tc := ⟨.hbm, 82, rfl⟩
abbrev main_v29 : Ref sig .tc := ⟨.hbm, 83, rfl⟩
abbrev main_cst_10 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_c_11 : Ref sig .tc := ⟨.hbm, 88, rfl⟩
abbrev main_v33 : Ref sig .tc := ⟨.hbm, 89, rfl⟩
abbrev main_v34 : Ref sig .tc := ⟨.hbm, 90, rfl⟩
abbrev main_c_12 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩

abbrev nD : Nat := 1
abbrev τ : Topo := Topo.v7x

variable {F : FTy → Type} [FloatOps F]
-- ==== Proof.Cases.lean ====
module

public import proofs.«01_k».proof.Defs
public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What the seven carried buffers hold between two points. -/
structure St (F : FTy → Type) [FloatOps F] where
  /-- The row softmax of the class table. -/
  t : Vec F S15x2048 .f32
  /-- The rows of each class, summed. -/
  g : Vec F S15x2048 .f32
  /-- The last row of each class in the first half. -/
  l1 : Vec F S15x2048 .f32
  /-- The last row of each class in the second half. -/
  l2 : Vec F S15x2048 .f32
  /-- The sum of the rows' log-sum-exps. -/
  acc : Vec F S1x1 .f32
  /-- How many rows of the first half lie in each class. -/
  n1 : Vec F S15x1 .f32
  /-- How many rows of the second half lie in each class. -/
  n2 : Vec F S15x1 .f32

/-- The product of a first-half block with its one-hot and last-position columns. -/
def res1 (x0 : Vec F S1x1024x2048 .f32) (x2 : Vec F S1x1x1024x1 .i32) : FVec F S32x2048 .f32 :=
  k0_pay17 (k0_pay12 x0) k0_pay14 (k0_pay15 x2) (iota Kind.tc S1024x32 32 [0] iota_S1024x32_d0_w32) 4294967295#32

/-- The same product of a second-half block. -/
def res2 (x1 : Vec F S1x1024x2048 .f32) (x3 : Vec F S1x1x1024x1 .i32) : FVec F S32x2048 .f32 :=
  k0_pay26 (k0_pay19 x1) (k0_pay20 x3) 16#32 k0_pay22 k0_pay23 0#32

/-- The class counts of a first-half block. -/
def cb1 (x2 : Vec F S1x1x1024x1 .i32) : FVec F S32x1 .f32 := k0_pay18 (k0_pay15 x2)

/-- The class counts of a second-half block. -/
def cb2 (x3 : Vec F S1x1x1024x1 .i32) : FVec F S32x1 .f32 := k0_pay27 (k0_pay20 x3) 16#32 k0_pay22 k0_pay23 0#32

/-- The buffers as the first point sets them up. -/
def start (x4 : Vec F S15x2048 .f32) : St F :=
  ⟨k0_pay3 x4, k0_pay4, k0_pay5, k0_pay6, k0_pay7, k0_pay8, k0_pay11⟩

/-- What one point's two blocks make of the buffers. -/
def step (x0 x1 : Vec F S1x1024x2048 .f32) (x2 x3 : Vec F S1x1x1024x1 .i32) (s : St F) : St F :=
  ⟨s.t, k0_pay30 (res2 x1 x3) s.g (k0_pay29 (res1 x0 x2)), k0_pay33 (res1 x0 x2) (cb1 x2) s.l1,
    k0_pay1 (k0_pay34 (res2 x1 x3) (cb2 x3) s.l2), k0_pay28 (k0_pay13 x0) (k0_pay21 x1) s.acc,
    k0_pay31 (cb1 x2) s.n1, k0_pay32 (cb2 x3) s.n2⟩

/-- The loss the last point computes from the buffers. -/
def lossOf (x4 : Vec F S15x2048 .f32) (s : St F) : Vec F S1x1 .f32 := k0_pay10 x4 s.t s.n1 s.n2 s.t s.g s.acc

/-- The new class table the last point computes from the buffers. -/
def outOf (x4 : Vec F S15x2048 .f32) (s : St F) : Vec F S15x2048 .f32 :=
  k0_pay2 x4 (k0_pay9 s.n1 s.n2) s.n2 s.l2 s.l1

section
variable (c : Dev nD) (i : grid0.Coords) (arg1 : Memref sig .tc .vmem S1x1024x2048 .f32) (harg1 : arg1.IsWhole) (arg2 : Memref sig .tc .vmem S1x1024x2048 .f32) (harg2 : arg2.IsWhole) (arg3 : Memref sig .tc .vmem S1x1x1024x1 .i32) (harg3 : arg3.IsWhole) (arg4 : Memref sig .tc .vmem S1x1x1024x1 .i32) (harg4 : arg4.IsWhole) (arg5 : Memref sig .tc .vmem S15x2048 .f32) (harg5 : arg5.IsWhole) (arg6 : Memref sig .tc .vmem S1x1 .f32) (harg6 : arg6.IsWhole) (arg7 : Memref sig .tc .vmem S15x2048 .f32) (harg7 : arg7.IsWhole) (arg8 : Memref sig .tc .vmem S15x2048 .f32) (harg8 : arg8.IsWhole) (arg9 : Memref sig .tc .vmem S15x2048 .f32) (harg9 : arg9.IsWhole) (arg10 : Memref sig .tc .vmem S15x2048 .f32) (harg10 : arg10.IsWhole) (arg11 : Memref sig .tc .vmem S15x2048 .f32) (harg11 : arg11.IsWhole) (arg12 : Memref sig .tc .vmem S1x1 .f32) (harg12 : arg12.IsWhole) (arg13 : Memref sig .tc .vmem S15x1 .f32) (harg13 : arg13.IsWhole) (arg14 : Memref sig .tc .vmem S15x1 .f32) (harg14 : arg14.IsWhole)
 (x0 : Vec F S1x1024x2048 .f32) (x1 : Vec F S1x1024x2048 .f32) (x2 : Vec F S1x1x1024x1 .i32) (x3 : Vec F S1x1x1024x1 .i32) (x4 : Vec F S15x2048 .f32) (xs0 : Vec F S15x2048 .f32) (xs1 : Vec F S15x2048 .f32) (xs2 : Vec F S15x2048 .f32) (xs3 : Vec F S15x2048 .f32) (xs4 : Vec F S1x1 .f32) (xs5 : Vec F S15x1 .f32) (xs6 : Vec F S15x1 .f32)

/-- The first point leaves the first step from the set-up buffers. -/
theorem caseA (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = (step x0 x1 x2 x3 (start x4)).t
    ∧ sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = (step x0 x1 x2 x3 (start x4)).g
    ∧ sout0_A_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = (step x0 x1 x2 x3 (start x4)).l1
    ∧ sout0_A_3 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = (step x0 x1 x2 x3 (start x4)).l2
    ∧ sout0_A_4 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = (step x0 x1 x2 x3 (start x4)).acc
    ∧ sout0_A_5 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = (step x0 x1 x2 x3 (start x4)).n1
    ∧ sout0_A_6 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = (step x0 x1 x2 x3 (start x4)).n2 := by
  refine ⟨(View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)).trans ?_,
    (View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)).trans ?_,
    (View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)).trans ?_,
    (View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)).trans ?_,
    (View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)).trans ?_,
    (View.read_writes_eq_canon _ _ _ (scover0_A_5 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)).trans ?_,
    (View.read_writes_eq_canon _ _ _ (scover0_A_6 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)).trans ?_⟩
  all_goals
    unfold kernelRun0_A
    dsimp only
    sl_unfold_words
    first | rw [View.canon_unit_zero hz] | rw [View.canon_cons_unit_zero (S := S15x2048) hz] | rw [View.canon_cons_unit_zero (S := S15x1) hz] | rw [View.canon_cons_unit_zero (S := S1x1) hz]
    simp only [View.readCov_unit_zero (S := S15x2048) _ hz, View.readCov_unit_zero (S := S15x1) _ hz, View.readCov_unit_zero (S := S1x1) _ hz,
      View.readAt_eq_ld, harg1.read_unread, harg2.read_unread, harg3.read_unread, harg4.read_unread, harg5.read_unread, harg8.read_unread, harg9.read_unread, harg10.read_unread, harg11.read_unread, harg12.read_unread, harg13.read_unread, harg14.read_unread,
      View.ld_unit_zero (S := S15x2048) hz, View.ld_unit_zero (S := S15x1) hz, View.ld_unit_zero (S := S1x1) hz,
      View.ld_unit_zero (S := S1x1024x2048) hz3, View.ld_unit_zero (S := S1x1x1024x1) hz4]
    rfl

/-- A middle point leaves the step from what it found. -/
theorem caseB (hc0 : ¬cond0_0 i) (hc1 : ¬cond0_1 i) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5 xs6 = (step x0 x1 x2 x3 ⟨xs0, xs1, xs2, xs3, xs4, xs5, xs6⟩).g
    ∧ sout0_B_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5 xs6 = (step x0 x1 x2 x3 ⟨xs0, xs1, xs2, xs3, xs4, xs5, xs6⟩).l1
    ∧ sout0_B_3 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5 xs6 = (step x0 x1 x2 x3 ⟨xs0, xs1, xs2, xs3, xs4, xs5, xs6⟩).l2
    ∧ sout0_B_4 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5 xs6 = (step x0 x1 x2 x3 ⟨xs0, xs1, xs2, xs3, xs4, xs5, xs6⟩).acc
    ∧ sout0_B_5 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5 xs6 = (step x0 x1 x2 x3 ⟨xs0, xs1, xs2, xs3, xs4, xs5, xs6⟩).n1
    ∧ sout0_B_6 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5 xs6 = (step x0 x1 x2 x3 ⟨xs0, xs1, xs2, xs3, xs4, xs5, xs6⟩).n2 := by
  refine ⟨(View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5 xs6)).trans ?_,
    (View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5 xs6)).trans ?_,
    (View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5 xs6)).trans ?_,
    (View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5 xs6)).trans ?_,
    (View.read_writes_eq_canon _ _ _ (scover0_B_5 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5 xs6)).trans ?_,
    (View.read_writes_eq_canon _ _ _ (scover0_B_6 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5 xs6)).trans ?_⟩
  all_goals
    unfold kernelRun0_B
    dsimp only
    sl_unfold_words
    first | rw [View.canon_unit_zero hz] | rw [View.canon_cons_unit_zero (S := S15x2048) hz] | rw [View.canon_cons_unit_zero (S := S15x1) hz] | rw [View.canon_cons_unit_zero (S := S1x1) hz]
    simp only [View.readCov_unit_zero (S := S15x2048) _ hz, View.readCov_unit_zero (S := S15x1) _ hz, View.readCov_unit_zero (S := S1x1) _ hz,
      View.readAt_eq_ld, harg1.read_unread, harg2.read_unread, harg3.read_unread, harg4.read_unread, harg5.read_unread, harg8.read_unread, harg9.read_unread, harg10.read_unread, harg11.read_unread, harg12.read_unread, harg13.read_unread, harg14.read_unread,
      View.ld_unit_zero (S := S15x2048) hz, View.ld_unit_zero (S := S15x1) hz, View.ld_unit_zero (S := S1x1) hz,
      View.ld_unit_zero (S := S1x1024x2048) hz3, View.ld_unit_zero (S := S1x1x1024x1) hz4]
    rfl

/-- The last point computes both results from the step from what it found. -/
theorem caseC (hc0 : ¬cond0_0 i) (hc1 : cond0_1 i) :
    out0_C_5 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5 xs6 = lossOf x4 (step x0 x1 x2 x3 ⟨xs0, xs1, xs2, xs3, xs4, xs5, xs6⟩)
    ∧ out0_C_6 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5 xs6 = outOf x4 (step x0 x1 x2 x3 ⟨xs0, xs1, xs2, xs3, xs4, xs5, xs6⟩) := by
  refine ⟨(View.read_writes_eq_canon _ _ _ (cover0_C_5 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5 xs6)).trans ?_,
    (View.read_writes_eq_canon _ _ _ (cover0_C_6 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5 xs6)).trans ?_⟩
  all_goals
    unfold kernelRun0_C
    dsimp only
    sl_unfold_words
    first | rw [View.canon_unit_zero hz] | rw [View.canon_cons_unit_zero (S := S15x2048) hz] | rw [View.canon_cons_unit_zero (S := S15x1) hz] | rw [View.canon_cons_unit_zero (S := S1x1) hz]
    simp only [View.readCov_unit_zero (S := S15x2048) _ hz, View.readCov_unit_zero (S := S15x1) _ hz, View.readCov_unit_zero (S := S1x1) _ hz,
      View.readAt_eq_ld, harg1.read_unread, harg2.read_unread, harg3.read_unread, harg4.read_unread, harg5.read_unread, harg8.read_unread, harg9.read_unread, harg10.read_unread, harg11.read_unread, harg12.read_unread, harg13.read_unread, harg14.read_unread,
      View.ld_unit_zero (S := S15x2048) hz, View.ld_unit_zero (S := S15x1) hz, View.ld_unit_zero (S := S1x1) hz,
      View.ld_unit_zero (S := S1x1024x2048) hz3, View.ld_unit_zero (S := S1x1x1024x1) hz4]
    rfl

end

end Cert.KernelIdeal.Cases
-- ==== Proof.State.lean ====
module

public import proofs.«01_k».proof.Proof.Cases

@[expose] public section

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]
variable (m : (ℓ : Loc nD τ sig) → Buf (Elt F) ℓ) (ρ : Dev nD → PrngReg)

/-- The state's seven parts in the order of the kernel's scratch buffers. -/
def St.tup (s : St F) : Vec F S15x2048 .f32 × Vec F S15x2048 .f32 × Vec F S15x2048 .f32 × Vec F S15x2048 .f32 × Vec F S1x1 .f32 × Vec F S15x1 .f32 × Vec F S15x1 .f32 :=
  (s.t, s.g, s.l1, s.l2, s.acc, s.n1, s.n2)

/-- The step at point `t`, over the blocks the windows hold there. -/
def stepAt (c : Dev nD) (t : Fin cfg0.N) (s : St F) : St F :=
  step (iblk m c 0 t) (iblk m c 1 t) (iblk m c 2 t) (iblk m c 3 t) s

/-- What the carried buffers hold after point `n`: the steps of points 0 to `n`, from the set-up buffers. -/
def stAt (c : Dev nD) : (n : ℕ) → n < cfg0.N → St F
  | 0, h => stepAt m c ⟨0, h⟩ (start (iblk m c 4 ⟨0, h⟩))
  | n + 1, h => stepAt m c ⟨n + 1, h⟩ (stAt c n (Nat.lt_of_succ_lt h))

/-- Before the last point the generated run's carried contents are that state. -/
theorem scratch_eq (c : Dev nD) : ∀ (n : ℕ) (h : n < cfg0.N), n < 7 → (outsAt0 m c n h).2.2 = (stAt m c n h).tup
  | 0, h, _ => by
    rw [outsAt0_A m c ⟨0, h⟩ rfl (by dsimp only; omega)]
    unfold St.tup
    simp only [Prod.mk.injEq]
    exact caseA ..
  | n + 1, h, h7 => by
    have hB : ¬(⟨n + 1, h⟩ : Fin cfg0.N).val % 8 = 0 := by dsimp only; omega
    have hC : ¬(⟨n + 1, h⟩ : Fin cfg0.N).val % 8 = 7 := by dsimp only; omega
    have ih := scratch_eq c n (Nat.lt_of_succ_lt h) (by omega)
    rw [outsAt0_B m c ⟨n + 1, h⟩ hB hC]
    show _ = (stepAt m c ⟨n + 1, h⟩ (stAt m c n _)).tup
    simp only [Nat.add_sub_cancel, ih]
    unfold St.tup
    simp only [Prod.mk.injEq]
    exact ⟨rfl, caseB ..⟩

/-- At the last point the two outputs' staging buffers hold the loss and the new table. -/
theorem outs_last (c : Dev nD) (n : ℕ) (h : n + 1 < cfg0.N) (h6 : n = 6) :
    (outsAt0 m c (n + 1) h).1 = lossOf (iblk m c 4 ⟨n + 1, h⟩) (stAt m c (n + 1) h)
    ∧ (outsAt0 m c (n + 1) h).2.1 = outOf (iblk m c 4 ⟨n + 1, h⟩) (stAt m c (n + 1) h) := by
  have hB : ¬(⟨n + 1, h⟩ : Fin cfg0.N).val % 8 = 0 := by dsimp only; omega
  have hC : (⟨n + 1, h⟩ : Fin cfg0.N).val % 8 = 7 := by dsimp only; omega
  have ih := scratch_eq m c n (Nat.lt_of_succ_lt h) (by omega)
  rw [outsAt0_C m c ⟨n + 1, h⟩ hB hC]
  show _ = lossOf _ (stepAt m c ⟨n + 1, h⟩ (stAt m c n _)) ∧ _ = outOf _ (stepAt m c ⟨n + 1, h⟩ (stAt m c n _))
  simp only [Nat.add_sub_cancel, ih]
  exact caseC ..

theorem lt7 : 7 < cfg0.N := by rw [show cfg0.N = 8 from N_0]; decide

/-- The loss array's contents after the run. -/
abbrev loss (c : Dev nD) : Buf (Elt F) ((c : Thread nD τ).loc main_v2_0) := lossOf (iblk m c 4 ⟨7, lt7⟩) (stAt m c 7 lt7)

/-- The new class table after the run. -/
abbrev table (c : Dev nD) : Buf (Elt F) ((c : Thread nD τ).loc main_v2_1) := outOf (iblk m c 4 ⟨7, lt7⟩) (stAt m c 7 lt7)

theorem t7_eq : (⟨7, lt7⟩ : Fin cfg0.N) = t0_7 := Fin.ext rfl

/-- The one write-back of the loss window writes the loss. -/
theorem flushed_loss (c : Dev nD) (t : Fin cfg0.N) (hf : (cfg0.win 5).flush t = true) :
    (dats m 0 c).flushed 5 t = ((cfg0.win 5).blk t).view.read (Elt F) (loss m c) := by
  have hN : cfg0.N = 8 := N_0
  have h7 : t.val = 7 := by have := (flush0_5 t).mp hf; have := t.isLt; omega
  obtain rfl : t = t0_7 := Fin.ext h7
  show (cfg0.win 5).cut (grid0.coords t0_7) ((dats m 0 c).after 5 t0_7) = _
  rw [after0_5, show (outsAt0 m c t0_7.val t0_7.isLt).1 = loss m c from (outs_last m c 6 lt7 rfl).1]
  have hz' : (fun a => win0_5.index t0_7 a * main_v2_0.ty.shape.size a) = fun _ => 0 := funext fun a => by fin_cases a <;> decide
  exact (Memref.read_access_unit_zero (Elt F) main_v2_0 hz' (fun a => by rw [congrFun hz' a]; simp) (loss m c)).symm

/-- The one write-back of the table window writes the new table. -/
theorem flushed_table (c : Dev nD) (t : Fin cfg0.N) (hf : (cfg0.win 6).flush t = true) :
    (dats m 0 c).flushed 6 t = ((cfg0.win 6).blk t).view.read (Elt F) (table m c) := by
  have hN : cfg0.N = 8 := N_0
  have h7 : t.val = 7 := by have := (flush0_6 t).mp hf; have := t.isLt; omega
  obtain rfl : t = t0_7 := Fin.ext h7
  show (cfg0.win 6).cut (grid0.coords t0_7) ((dats m 0 c).after 6 t0_7) = _
  rw [after0_6, show (outsAt0 m c t0_7.val t0_7.isLt).2.1 = table m c from (outs_last m c 6 lt7 rfl).2]
  have hz' : (fun a => win0_6.index t0_7 a * main_v2_1.ty.shape.size a) = fun _ => 0 := funext fun a => by fin_cases a <;> decide
  exact (Memref.read_access_unit_zero (Elt F) main_v2_1 hz' (fun a => by rw [congrFun hz' a]; simp) (table m c)).symm

/-- The loss array ends holding the loss. -/
theorem final_loss (c : Dev nD) : (dats m 0 c).arrAt 5 cfg0.N = loss m c :=
  (dats m 0 c).arrAt_eq_of_cover 5 (loss m c) (flushed_loss m c) fun i =>
    ⟨t0_7, (flush0_5 t0_7).mpr rfl, by
      show i ∈ ((View.whole main_v2_0).slice (win0_5.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_5.index t0_7 0 * win0_5.size 0 ≤ (i 0 : Nat) ∧ (i 0 : Nat) < win0_5.index t0_7 0 * win0_5.size 0 + win0_5.xsize (grid0.coords t0_7) 0
                  rw [show win0_5.index t0_7 0 * win0_5.size 0 = 0 from by decide +kernel, show win0_5.xsize (grid0.coords t0_7) 0 = 1 from by decide +kernel]; omega
      | ⟨1, _⟩ => show win0_5.index t0_7 1 * win0_5.size 1 ≤ (i 1 : Nat) ∧ (i 1 : Nat) < win0_5.index t0_7 1 * win0_5.size 1 + win0_5.xsize (grid0.coords t0_7) 1
                  rw [show win0_5.index t0_7 1 * win0_5.size 1 = 0 from by decide +kernel, show win0_5.xsize (grid0.coords t0_7) 1 = 1 from by decide +kernel]; omega⟩

/-- The table array ends holding the new table. -/
theorem final_table (c : Dev nD) : (dats m 0 c).arrAt 6 cfg0.N = table m c :=
  (dats m 0 c).arrAt_eq_of_cover 6 (table m c) (flushed_table m c) fun i =>
    ⟨t0_7, (flush0_6 t0_7).mpr rfl, by
      show i ∈ ((View.whole main_v2_1).slice (win0_6.rect t0_7)).set
      rw [View.set_slice_whole, Rect.mem_set_unit]
      intro a
      have h0 : (i 0 : Nat) < 15 := (i 0).isLt
      have h1 : (i 1 : Nat) < 2048 := (i 1).isLt
      match a with
      | ⟨0, _⟩ => show win0_6.index t0_7 0 * win0_6.size 0 ≤ (i 0 : Nat) ∧ (i 0 : Nat) < win0_6.index t0_7 0 * win0_6.size 0 + win0_6.xsize (grid0.coords t0_7) 0
                  rw [show win0_6.index t0_7 0 * win0_6.size 0 = 0 from by decide +kernel, show win0_6.xsize (grid0.coords t0_7) 0 = 15 from by decide +kernel]; omega
      | ⟨1, _⟩ => show win0_6.index t0_7 1 * win0_6.size 1 ≤ (i 1 : Nat) ∧ (i 1 : Nat) < win0_6.index t0_7 1 * win0_6.size 1 + win0_6.xsize (grid0.coords t0_7) 1
                  rw [show win0_6.index t0_7 1 * win0_6.size 1 = 0 from by decide +kernel, show win0_6.xsize (grid0.coords t0_7) 1 = 2048 from by decide +kernel]; omega⟩

/-- Two windows over one array are input windows, and an input array is not written. -/
theorem inputs_kept (c : Dev nD) (w w' : Fin cfg0.W) (hne : w ≠ w') (e : Pipeline.arrRef spec0 w = Pipeline.arrRef spec0 w') :
    (dats m 0 c).arrAt w cfg0.N = V0 m c (Proc.devRef .tc (Pipeline.arrRef spec0 w)) := by
  have hin : (cfg0.win w).isOut = false := by
    revert w w'; decide
  exact ((dats m 0 c).arrAt_in w hin _).trans (A_eq m c w)

/-- The value `main_v3` ends with: the loss array read as a scalar by the host's reshape. -/
theorem tail_v3 (c : Dev nD) : Pipeline.afterTail₀ cfgs (dats m) 0 (V0 m) [hostOps1] c main_v3
    = shapeCast S_ (loss m c) shapeCasts_S1x1_S_ := by
  unfold Pipeline.afterTail₀
  simp only [hostOps1, List.flatten_cons, List.flatten_nil, List.append_nil, List.cons_append, List.nil_append]
  after_results_simp
  show shapeCast S_ (Pipeline.withArrays spec0 c (V0 m c) (fun w => (dats m 0 c).arrAt w cfg0.N)
    (Proc.devRef .tc (Pipeline.arrRef spec0 5))) shapeCasts_S1x1_S_ = _
  rw [Pipeline.withArrays_arr_shared spec0 c (V0 m c) (fun w => (dats m 0 c).arrAt w cfg0.N) (inputs_kept m c) 5, final_loss m c]

/-- The run, read: both results and the three arguments unchanged. -/
theorem run : θ_run defs (onTc (τ := τ) (main (F := F))) ⟨m, fun _ => 0, ρ⟩ fun r => ∀ c : Dev nD,
      r.2.mem ((c : Thread nD τ).loc main_v3) = shapeCast S_ (loss m c) shapeCasts_S1x1_S_
      ∧ r.2.mem ((c : Thread nD τ).loc main_v2_1) = table m c :=
  (θ_run defs _ _).mono (fun _ h c => ⟨((h c).2 main_v3 (by decide)).trans (tail_v3 m c), ((h c).1 6).trans (final_table m c)⟩)
    (run_main m ρ)

end Cert.KernelIdeal.Cases
-- ==== Proof.Staged.lean ====
module

public import proofs.«01_k».proof.Proof.Gen.ReferenceIdeal.Run

@[expose] public section

set_option maxRecDepth 16384

noncomputable section

open Idealize.ShloMosaic Idealize.ShloMosaic.TcCoe Idealize.SL.Sem
open Cert.ReferenceIdeal Cert.ReferenceIdeal.Gen

/-! # The reference's results in stages -/

namespace Cert.ReferenceIdeal.Staged

variable {F : FTy → Type} [FloatOps F]

/-- The class of every label, looked up in the label table. -/
def looked (l : Vec F S16384 .i32) : Vec F S16384 .i32 :=
  Host.gather gather_S21_S16384x1_S16384_n_0_n_n_0_1_1 ((fun i => lit0 (S21.rowMajor i))) (broadcastInDim S16384x1 ![0] bcast_S16384_S16384x1_0
    (select (cmpi .slt (addi l (broadcastInDim S16384 ![] bcast_S_S16384 (constantI S_ 32 1#32))) (broadcastInDim S16384 ![] bcast_S_S16384 (constantI S_ 32 0#32)))
      (addi (addi l (broadcastInDim S16384 ![] bcast_S_S16384 (constantI S_ 32 1#32))) (broadcastInDim S16384 ![] bcast_S_S16384 (constantI S_ 32 21#32)))
      (addi l (broadcastInDim S16384 ![] bcast_S_S16384 (constantI S_ 32 1#32)))))

/-- The classes as row numbers, negative ones wrapped, in a column. -/
def wrapped (g : Vec F S16384 .i32) : Vec F S16384x1 .i32 :=
  broadcastInDim S16384x1 ![0] bcast_S16384_S16384x1_0
    (select (cmpi .slt g (broadcastInDim S16384 ![] bcast_S_S16384 (constantI S_ 32 0#32)))
      (addi g (broadcastInDim S16384 ![] bcast_S_S16384 (constantI S_ 32 15#32))) g)

/-- Which row numbers lie in the table. -/
def inside (i : Vec F S16384x1 .i32) : Vec F S16384 .i1 :=
  Host.reduce IntOp.andi (andi (cmpi .sge i (broadcastInDim S16384x1 ![] bcast_S_S16384x1 (constantI S_ 32 0#32)))
    (cmpi .sle i (broadcastInDim S16384x1 ![0, 1] bcast_S1x1_S16384x1_0_1 (broadcastInDim S1x1 ![1] bcast_S1_S1x1_1 (constantI S1 32 14#32)))))
    (constantI S_ 1 1#1) reducesTo_S16384x1_S16384_d1 h_S_

/-- The table row of every row number. -/
def taken (tb : Vec F S15x2048 .f32) (i : Vec F S16384x1 .i32) : Vec F S16384x2048 .f32 :=
  select (broadcastInDim S16384x2048 ![0] bcast_S16384_S16384x2048_0 (inside i))
    (Host.gather gather_S15x2048_S16384x1_S16384x2048_1_0_n_n_0_1_12048 tb i)
    (broadcastInDim S16384x2048 ![] bcast_S_S16384x2048 (constant S_ .f32 0x7FC00000#32))

/-- Every row less its maximum. -/
def shifted (z : Vec F S16384x2048 .f32) : Vec F S16384x2048 .f32 :=
  subf z (broadcastInDim S16384x2048 ![0, 1] bcast_S16384x1_S16384x2048_0_1 (broadcastInDim S16384x1 ![0] bcast_S16384_S16384x1_0
    (maximumf (broadcastInDim S16384 ![] bcast_S_S16384 (constant S_ .f32 0xFF800000#32))
      (Host.reduce FloatOps.maximumf z (constant S_ .f32 0xFF800000#32) reducesTo_S16384x2048_S16384_d1 h_S_))))

/-- The row sums of the exponentials, in a column. -/
def expsum (y : Vec F S16384x2048 .f32) : Vec F S16384x1 .f32 :=
  broadcastInDim S16384x1 ![0] bcast_S16384_S16384x1_0
    (Host.reduceAdd (Host.exp y) (constant S_ .f32 0x00000000#32) reducesTo_S16384x2048_S16384_d1 h_S_)

/-- The logarithm of every row's softmax. -/
def logsoft (z : Vec F S16384x2048 .f32) : Vec F S16384x2048 .f32 :=
  subf (shifted z) (broadcastInDim S16384x2048 ![0, 1] bcast_S16384x1_S16384x2048_0_1 (Host.log (expsum (shifted z))))

/-- Every row's softmax. -/
def soft (z : Vec F S16384x2048 .f32) : Vec F S16384x2048 .f32 :=
  Host.divf (Host.exp (shifted z)) (broadcastInDim S16384x2048 ![0, 1] bcast_S16384x1_S16384x2048_0_1 (expsum (shifted z)))

/-- The clipped mean of the rows' divergences. -/
def lossOf (s x : Vec F S16384x2048 .f32) : Vec F S_ .f32 :=
  minimumf (id (constant S_ .f32 0x47C35000#32)) (maximumf (id (constant S_ .f32 0x3727C5AC#32))
    (Host.divf (Host.reduceAdd (mulf (soft s) (subf (Host.log (soft s)) (logsoft x))) (constant S_ .f32 0x00000000#32)
      reducesTo_S16384x2048_S_d0_1 h_S_) (constant S_ .f32 0x46800000#32)))

/-- The blended rows. -/
def blended (s x : Vec F S16384x2048 .f32) : Vec F S16384x2048 .f32 :=
  addf (mulf s (broadcastInDim S16384x2048 ![] bcast_S_S16384x2048 (constant S_ .f32 0x3F7FFF58#32)))
    (mulf x (broadcastInDim S16384x2048 ![] bcast_S_S16384x2048 (constant S_ .f32 0x3727C5AC#32)))

variable (m : (ℓ : Loc nD τ sig) → Buf (Elt F) ℓ) (c : Dev nD)

/-- The row numbers of the labels. -/
def rows (l : Vec F S16384 .i32) : Vec F S16384x1 .i32 := wrapped (F := F) (looked (F := F) l)

/-- The first result in stages. -/
theorem first_eq : Value.res_main_v27 m c = lossOf (taken (m ((c.tc : Thread nD τ).loc main_arg2)) (rows (F := F) (m ((c.tc : Thread nD τ).loc main_arg1))))
    (m ((c.tc : Thread nD τ).loc main_arg0)) := rfl

/-- The second result in stages. -/
theorem second_eq : Value.res_main_v39 m c = Host.scatter scatter_S15x2048_S16384x1_S16384x2048_1_0_0_1 (fun _ b => b)
    (m ((c.tc : Thread nD τ).loc main_arg2)) (rows (F := F) (m ((c.tc : Thread nD τ).loc main_arg1)))
    (blended (taken (m ((c.tc : Thread nD τ).loc main_arg2)) (rows (F := F) (m ((c.tc : Thread nD τ).loc main_arg1))))
      (m ((c.tc : Thread nD τ).loc main_arg0))) := rfl

end Cert.ReferenceIdeal.Staged
-- ==== Proof.Block.lean ====
module

public import proofs.«01_k».proof.Proof.Cases
public import Idealize.ShloMosaic.Lib.Pointwise

@[expose] public section

set_option maxRecDepth 16384

noncomputable section

open Idealize.ShloMosaic Idealize.SL.Sem
open Cert.KernelIdeal Cert.KernelIdeal.Gen
open Idealize.ShloMosaic.Pointwise

/-! # What one block of 1024 rows contributes, at the extended reals -/

namespace Cert.KernelIdeal.Cases

variable (x : Vec Ideal S1x1024x2048 .f32) (l : Vec Ideal S1x1x1024x1 .i32)

/-- The two halves' block products are one function. -/
theorem res2_eq : res2 x l = res1 x l := rfl
/-- The two halves' class counts are one function. -/
theorem cb2_eq : cb2 (F := Ideal) l = cb1 (F := Ideal) l := rfl
/-- The two halves' log-sum-exp totals are one function. -/
theorem lse2_eq : k0_pay21 x = k0_pay13 x := rfl

/-- The column number modulo 16, as the kernel computes it. -/
theorem col_mod : ∀ k : Fin 32, (Scalar.select
        (IntOp.andi
          (IntOp.xori
            (IntOp.cmpi CmpIPredicate.slt
              (IntOp.remsi ArithUnit.vector (BitVec.ofNat 32 ↑k)
                (Scalar.select (Scalar.cmpi CmpIPredicate.eq 16#32 0#32) 1#32 16#32))
              0#32)
            (Scalar.cmpi CmpIPredicate.slt (Scalar.select (Scalar.cmpi CmpIPredicate.eq 16#32 0#32) 1#32 16#32) 0#32))
          (IntOp.cmpi CmpIPredicate.ne
            (IntOp.remsi ArithUnit.vector (BitVec.ofNat 32 ↑k)
              (Scalar.select (Scalar.cmpi CmpIPredicate.eq 16#32 0#32) 1#32 16#32))
            0#32))
        (IntOp.addi
          (IntOp.remsi ArithUnit.vector (BitVec.ofNat 32 ↑k)
            (Scalar.select (Scalar.cmpi CmpIPredicate.eq 16#32 0#32) 1#32 16#32))
          (Scalar.select (Scalar.cmpi CmpIPredicate.eq 16#32 0#32) 1#32 16#32))
        (IntOp.remsi ArithUnit.vector (BitVec.ofNat 32 ↑k)
          (Scalar.select (Scalar.cmpi CmpIPredicate.eq 16#32 0#32) 1#32 16#32))) = BitVec.ofNat 32 (k.val % 16) := by
  decide +kernel

/-- A comparison for equality, as a choice. -/
theorem cmpi_eq_ite (a b : BitVec 32) : IntOp.cmpi CmpIPredicate.eq a b = if a = b then 1#1 else 0#1 := by
  unfold IntOp.cmpi
  by_cases h : a = b
  · subst h; simp
  · have hb : (a == b) = false := beq_eq_false_iff_ne.mpr h
    simp [h, hb]

/-- The mask at a row and a column: set where the row's class is the column number modulo 16. -/
theorem mask_apply (p : Fin 1024) (k : Fin 32) : k0_pay15 (F := Ideal) l (ix2 p k)
    = if l (ix4 0 0 p 0) = BitVec.ofNat 32 (k.val % 16) then 1#1 else 0#1 := by
  pointwise [k0_pay15]
  rw [col_mod, cmpi_eq_ite]

/-- A selection by the mask is a choice by the row's class. -/
theorem select_mask {α : Type} (p : Fin 1024) (k : Fin 32) (a b : α) : Scalar.select (k0_pay15 (F := Ideal) l (ix2 p k)) a b
    = if l (ix4 0 0 p 0) = BitVec.ofNat 32 (k.val % 16) then a else b := by
  rw [mask_apply]
  split_ifs <;> rfl

/-- A block's log-sum-exp total: over its rows, the logarithm of the sum of the exponentials. -/
theorem lse_apply : k0_pay13 x (ix2 0 0) = ∑ p : Fin 1024, Ideal.log (∑ f : Fin 2048, Ideal.exp (x (ix3 0 p f))) := by
  pointwise [k0_pay13, k0_pay12]
  exact Finset.sum_congr rfl fun p _ => Fin.sum_univ_one _

/-- A block's count of a class. -/
theorem cb_apply (k : Fin 32) : cb1 (F := Ideal) l (ix2 k 0)
    = ∑ p : Fin 1024, if l (ix4 0 0 p 0) = BitVec.ofNat 32 (k.val % 16) then (1 : EReal) else 0 := by
  pointwise [cb1, k0_pay18, k0_pay16]
  exact Finset.sum_congr rfl fun p _ => select_mask ..

/-- The position of the last row whose class is the column's, as the kernel's maximum gives it. -/
def lastPos (k : Fin 32) : BitVec 32 := Finset.fold IntOp.maxsi (2147483648#32)
  (fun p : Fin 1024 => Scalar.select (k0_pay15 (F := Ideal) l (ix2 p k)) (BitVec.ofNat 32 p.val) 4294967295#32) Finset.univ

/-- The block product at a column: a row sum chosen by the class in the first 16 columns, by the last position in the others. -/
theorem res_apply (k : Fin 32) (f : Fin 2048) : res1 x l (ix2 k f)
    = ∑ p : Fin 1024, (if 16 ≤ k.val then (if BitVec.ofNat 32 p.val = lastPos l k then (1 : EReal) else 0)
        else (if l (ix4 0 0 p 0) = BitVec.ofNat 32 (k.val % 16) then 1 else 0)) * x (ix3 0 p f) := by
  pointwise [res1, k0_pay17, k0_pay16, k0_pay12, k0_pay14]
  refine Finset.sum_congr rfl fun p _ => ?_
  congr 1
  rw [select_mask l p k (1 : EReal) 0]
  have hk : IntOp.cmpi CmpIPredicate.sge (BitVec.ofNat 32 ↑k) 16#32 = if 16 ≤ k.val then 1#1 else 0#1 := by
    revert k; decide +kernel
  rw [hk]
  have hp : Scalar.select (IntOp.cmpi CmpIPredicate.eq (BitVec.ofNat 32 p.val) (lastPos l k)) (1 : EReal) 0
      = if BitVec.ofNat 32 p.val = lastPos l k then 1 else 0 := by
    rw [cmpi_eq_ite]
    split_ifs <;> rfl
  unfold lastPos at hp ⊢
  rw [hp]
  split_ifs <;> rfl

/-- The first columns hold the rows of each class, summed. -/
theorem res_sum (k : Fin 15) (f : Fin 2048) : res1 x l (ix2 ⟨k.val, by omega⟩ f)
    = ∑ p : Fin 1024, (if l (ix4 0 0 p 0) = BitVec.ofNat 32 k.val then (1 : EReal) else 0) * x (ix3 0 p f) := by
  rw [res_apply]
  refine Finset.sum_congr rfl fun p _ => ?_
  have h1 : ¬16 ≤ k.val := by omega
  have h2 : k.val % 16 = k.val := by omega
  simp only [h1, h2, if_false]

/-- The signed maximum of words read as integers is the maximum. -/
theorem toInt_maxsi (a b : BitVec 32) : (IntOp.maxsi a b).toInt = max a.toInt b.toInt := by
  unfold IntOp.maxsi
  split_ifs with h <;> simp only [BitVec.sle, BitVec.slt, decide_eq_true_eq] at h <;> omega

theorem toInt_pos (p : Fin 1024) : (BitVec.ofNat 32 p.val).toInt = p.val := by
  have := p.isLt
  have h : (BitVec.ofNat 32 p.val).toNat = p.val := by rw [BitVec.toNat_ofNat]; omega
  rw [BitVec.toInt_eq_toNat_of_lt (by rw [h]; omega), h]

/-- Where a row has the column's class and no later one does, the maximum is that row's position. -/
theorem lastPos_eq (k : Fin 32) (q : Fin 1024) (hq : l (ix4 0 0 q 0) = BitVec.ofNat 32 (k.val % 16))
    (hlast : ∀ p : Fin 1024, q < p → l (ix4 0 0 p 0) ≠ BitVec.ofNat 32 (k.val % 16)) : lastPos l k = BitVec.ofNat 32 q.val := by
  apply BitVec.eq_of_toInt_eq
  unfold lastPos
  simp only [select_mask]
  rw [← Finset.fold_hom (op' := max) (m := BitVec.toInt) toInt_maxsi, toInt_pos]
  apply le_antisymm
  · rw [Finset.fold_max_le]
    refine ⟨by rw [show (2147483648#32).toInt = -2147483648 from by decide]; omega, fun p _ => ?_⟩
    split_ifs with h
    · rw [toInt_pos]
      by_contra hc
      exact hlast p (by rw [Fin.lt_def]; omega) h
    · rw [show (4294967295#32).toInt = -1 from by decide]; omega
  · rw [Finset.le_fold_max]
    right
    exact ⟨q, Finset.mem_univ q, by rw [if_pos hq, toInt_pos]⟩

/-- The later columns hold the last row of each class. -/
theorem res_last (k : Fin 15) (f : Fin 2048) (q : Fin 1024) (hq : l (ix4 0 0 q 0) = BitVec.ofNat 32 k.val)
    (hlast : ∀ p : Fin 1024, q < p → l (ix4 0 0 p 0) ≠ BitVec.ofNat 32 k.val) :
    res1 x l (ix2 ⟨16 + k.val, by omega⟩ f) = x (ix3 0 q f) := by
  have hk : (16 + k.val) % 16 = k.val := by omega
  rw [res_apply, lastPos_eq l ⟨16 + k.val, by omega⟩ q (by simpa only [hk] using hq) (by simpa only [hk] using hlast)]
  rw [Finset.sum_eq_single q]
  · simp
  · intro p _ hp
    have : BitVec.ofNat 32 p.val ≠ BitVec.ofNat 32 q.val := fun e => hp (Fin.ext (by
      have := congrArg BitVec.toInt e
      rw [toInt_pos, toInt_pos] at this
      omega))
    simp [this]
  · exact fun h => absurd (Finset.mem_univ q) h

end Cert.KernelIdeal.Cases
-- ==== Proof.Rows.lean ====
module

public import proofs.«01_k».proof.Proof.State
public import proofs.«01_k».proof.Proof.Block

@[expose] public section

set_option maxRecDepth 16384

noncomputable section

open Idealize.ShloMosaic Idealize.ShloMosaic.TcCoe Idealize.SL.Sem
open Cert.KernelIdeal Cert.KernelIdeal.Gen
open Idealize.ShloMosaic.Pointwise

/-! # The blocks the windows read, as rows of the arguments -/

namespace Cert.KernelIdeal.Cases

variable (m : (ℓ : Loc nD τ sig) → Buf (Elt Ideal) ℓ) (c : Dev nD)

/-- The row that half `h`, point `t`, position `p` of a block is. -/
def row (h t p : ℕ) (hh : h < 2) (ht : t < 8) (hp : p < 1024) : Fin 16384 := ⟨8192 * h + 1024 * t + p, by omega⟩

/-- The input rows. -/
def X (r : Fin 16384) (f : Fin 2048) : EReal := (m ((c : Thread nD τ).loc main_arg0) : S16384x2048.Idx → EReal) (ix2 r f)

/-- The rows' class words. -/
def L (r : Fin 16384) : BitVec 32 := (m ((c : Thread nD τ).loc main_arg1) : S16384.Idx → BitVec 32) (ix1 r)

/-- The class table. -/
def T (k : Fin 15) (f : Fin 2048) : EReal := (m ((c : Thread nD τ).loc main_arg2) : S15x2048.Idx → EReal) (ix2 k f)

theorem lt8 (t : Fin cfg0.N) : t.val < 8 := lt_of_lt_of_eq t.isLt N_0

/-- The input array the first two windows read. -/
theorem V_v0 : (V m c main_v0 : S2x8192x2048.Idx → EReal)
    = shapeCast S2x8192x2048 (m ((c : Thread nD τ).loc main_arg0) : S16384x2048.Idx → EReal) shapeCasts_S16384x2048_S2x8192x2048 := by
  show StableHlo.after (List.flatten [hostOps0]) (fun b => m (c, b)) (Proc.devRef .tc main_v0) = _
  simp only [hostOps0, List.flatten_cons, List.flatten_nil, List.append_nil, List.cons_append, List.nil_append]
  after_results_simp
  rfl

/-- The label array the next two windows read. -/
theorem V_v1 : (V m c main_v1 : S2x8x1024x1.Idx → BitVec 32)
    = shapeCast S2x8x1024x1 (m ((c : Thread nD τ).loc main_arg1) : S16384.Idx → BitVec 32) shapeCasts_S16384_S2x8x1024x1 := by
  show StableHlo.after (List.flatten [hostOps0]) (fun b => m (c, b)) (Proc.devRef .tc main_v1) = _
  simp only [hostOps0, List.flatten_cons, List.flatten_nil, List.append_nil, List.cons_append, List.nil_append]
  after_results_simp
  rfl

/-- Where the five input windows stand at each point. -/
theorem idx0 : ∀ t : Fin cfg0.N, win0_0.index t = ![0, t.val, 0] ∧ win0_1.index t = ![1, t.val, 0]
    ∧ win0_2.index t = ![0, t.val, 0, 0] ∧ win0_3.index t = ![1, t.val, 0, 0] ∧ win0_4.index t = ![0, 0] := by
  intro t
  rcases fin_N0 t with rfl | rfl | rfl | rfl | rfl | rfl | rfl | rfl <;> decide +kernel

/-- The halved input array read as rows. -/
theorem cast_rows {α : Type} (x : S16384x2048.Idx → α) (h) (a : Fin 2) (q : Fin 8192) (f : Fin 2048) (r : Fin 16384)
    (hr : r.val = 8192 * a.val + q.val) : shapeCast S2x8192x2048 x h (ix3 a q f) = x (ix2 r f) := by
  pointwise []
  congr 2
  apply Fin.ext
  dsimp only
  omega

/-- The halved label array read as rows. -/
theorem cast_labels {α : Type} (x : S16384.Idx → α) (h) (a : Fin 2) (q : Fin 8) (p : Fin 1024) (r : Fin 16384)
    (hr : r.val = 8192 * a.val + 1024 * q.val + p.val) : shapeCast S2x8x1024x1 x h (ix4 a q p 0) = x (ix1 r) := by
  pointwise []
  congr 2
  apply Fin.ext
  dsimp only
  omega

/-- A first-half input block holds its rows. -/
theorem iblk0 (t : Fin cfg0.N) (p : Fin 1024) (f : Fin 2048) :
    (iblk m c 0 t : Vec Ideal S1x1024x2048 .f32) (ix3 0 p f) = X m c (row 0 t.val p.val (by omega) (lt8 t) p.isLt) f := by
  have ht := lt8 t
  have hi := (idx0 t).1
  have he : ((cfg0.win 0).blk t).view.emb (ix3 0 p f) = (ix3 0 ⟨1024 * t.val + p.val, by omega⟩ f : S2x8192x2048.Idx) := by
    funext a
    apply Fin.ext
    match a with
    | ⟨0, _⟩ => show win0_0.index t 0 * 1 + 1 * 0 = 0; rw [hi]; rfl
    | ⟨1, _⟩ => show win0_0.index t 1 * 1024 + 1 * p.val = 1024 * t.val + p.val; rw [hi]; show t.val * 1024 + 1 * p.val = _; omega
    | ⟨2, _⟩ => show win0_0.index t 2 * 2048 + 1 * f.val = f.val; rw [hi]; show 0 * 2048 + 1 * f.val = _; omega
  unfold iblk
  rw [View.read_apply]
  show (V m c main_v0 : S2x8192x2048.Idx → EReal) _ = _
  rw [V_v0, he]
  exact cast_rows _ _ _ _ _ _ (by simp [row]; try omega)

/-- A second-half input block holds its rows. -/
theorem iblk1 (t : Fin cfg0.N) (p : Fin 1024) (f : Fin 2048) :
    (iblk m c 1 t : Vec Ideal S1x1024x2048 .f32) (ix3 0 p f) = X m c (row 1 t.val p.val (by omega) (lt8 t) p.isLt) f := by
  have ht := lt8 t
  have hi := (idx0 t).2.1
  have he : ((cfg0.win 1).blk t).view.emb (ix3 0 p f) = (ix3 1 ⟨1024 * t.val + p.val, by omega⟩ f : S2x8192x2048.Idx) := by
    funext a
    apply Fin.ext
    match a with
    | ⟨0, _⟩ => show win0_1.index t 0 * 1 + 1 * 0 = 1; rw [hi]; rfl
    | ⟨1, _⟩ => show win0_1.index t 1 * 1024 + 1 * p.val = 1024 * t.val + p.val; rw [hi]; show t.val * 1024 + 1 * p.val = _; omega
    | ⟨2, _⟩ => show win0_1.index t 2 * 2048 + 1 * f.val = f.val; rw [hi]; show 0 * 2048 + 1 * f.val = _; omega
  unfold iblk
  rw [View.read_apply]
  show (V m c main_v0 : S2x8192x2048.Idx → EReal) _ = _
  rw [V_v0, he]
  exact cast_rows _ _ _ _ _ _ (by simp [row]; try omega)

/-- A first-half label block holds its rows' classes. -/
theorem iblk2 (t : Fin cfg0.N) (p : Fin 1024) :
    (iblk m c 2 t : Vec Ideal S1x1x1024x1 .i32) (ix4 0 0 p 0) = L m c (row 0 t.val p.val (by omega) (lt8 t) p.isLt) := by
  have ht := lt8 t
  have hi := (idx0 t).2.2.1
  have he : ((cfg0.win 2).blk t).view.emb (ix4 0 0 p 0) = (ix4 0 ⟨t.val, ht⟩ p 0 : S2x8x1024x1.Idx) := by
    funext a
    apply Fin.ext
    match a with
    | ⟨0, _⟩ => show win0_2.index t 0 * 1 + 1 * 0 = 0; rw [hi]; rfl
    | ⟨1, _⟩ => show win0_2.index t 1 * 1 + 1 * 0 = t.val; rw [hi]; show t.val * 1 + 1 * 0 = _; omega
    | ⟨2, _⟩ => show win0_2.index t 2 * 1024 + 1 * p.val = p.val; rw [hi]; show 0 * 1024 + 1 * p.val = _; omega
    | ⟨3, _⟩ => show win0_2.index t 3 * 1 + 1 * 0 = 0; rw [hi]; rfl
  unfold iblk
  rw [View.read_apply]
  show (V m c main_v1 : S2x8x1024x1.Idx → BitVec 32) _ = _
  rw [V_v1, he]
  exact cast_labels _ _ _ _ _ _ (by simp [row]; try omega)

/-- A second-half label block holds its rows' classes. -/
theorem iblk3 (t : Fin cfg0.N) (p : Fin 1024) :
    (iblk m c 3 t : Vec Ideal S1x1x1024x1 .i32) (ix4 0 0 p 0) = L m c (row 1 t.val p.val (by omega) (lt8 t) p.isLt) := by
  have ht := lt8 t
  have hi := (idx0 t).2.2.2.1
  have he : ((cfg0.win 3).blk t).view.emb (ix4 0 0 p 0) = (ix4 1 ⟨t.val, ht⟩ p 0 : S2x8x1024x1.Idx) := by
    funext a
    apply Fin.ext
    match a with
    | ⟨0, _⟩ => show win0_3.index t 0 * 1 + 1 * 0 = 1; rw [hi]; rfl
    | ⟨1, _⟩ => show win0_3.index t 1 * 1 + 1 * 0 = t.val; rw [hi]; show t.val * 1 + 1 * 0 = _; omega
    | ⟨2, _⟩ => show win0_3.index t 2 * 1024 + 1 * p.val = p.val; rw [hi]; show 0 * 1024 + 1 * p.val = _; omega
    | ⟨3, _⟩ => show win0_3.index t 3 * 1 + 1 * 0 = 0; rw [hi]; rfl
  unfold iblk
  rw [View.read_apply]
  show (V m c main_v1 : S2x8x1024x1.Idx → BitVec 32) _ = _
  rw [V_v1, he]
  exact cast_labels _ _ _ _ _ _ (by simp [row]; try omega)

/-- The table block is the class table. -/
theorem iblk4 (t : Fin cfg0.N) (k : Fin 15) (f : Fin 2048) :
    (iblk m c 4 t : Vec Ideal S15x2048 .f32) (ix2 k f) = T m c k f := by
  have hi := (idx0 t).2.2.2.2
  have he : ((cfg0.win 4).blk t).view.emb (ix2 k f) = (ix2 k f : S15x2048.Idx) := by
    funext a
    apply Fin.ext
    match a with
    | ⟨0, _⟩ => show win0_4.index t 0 * 15 + 1 * k.val = k.val; rw [hi]; show 0 * 15 + 1 * k.val = _; omega
    | ⟨1, _⟩ => show win0_4.index t 1 * 2048 + 1 * f.val = f.val; rw [hi]; show 0 * 2048 + 1 * f.val = _; omega
  unfold iblk
  rw [View.read_apply]
  show (V m c main_arg2 : S15x2048.Idx → EReal) _ = _
  rw [V_main_arg2, he]
  rfl

/-- The blocks of both halves at all points make up the rows. -/
theorem sum_rows (G : Fin 16384 → EReal) :
    ∑ r, G r = ∑ t : Fin 8, ((∑ p : Fin 1024, G (row 0 t.val p.val (by omega) t.isLt p.isLt))
      + ∑ p : Fin 1024, G (row 1 t.val p.val (by omega) t.isLt p.isLt)) := by
  have e : ∑ h : Fin 2, ∑ t : Fin 8, ∑ p : Fin 1024, G (row h.val t.val p.val h.isLt t.isLt p.isLt) = ∑ r, G r := by
    rw [← Equiv.sum_comp ((finProdFinEquiv (m := 2) (n := 8192)).trans (finCongr (by norm_num))) G, Fintype.sum_prod_type]
    refine Finset.sum_congr rfl fun h _ => ?_
    rw [← Equiv.sum_comp ((finProdFinEquiv (m := 8) (n := 1024)).trans (finCongr (by norm_num : 8 * 1024 = 8192)))
      (fun q : Fin 8192 => G (((finProdFinEquiv (m := 2) (n := 8192)).trans (finCongr (by norm_num))) (h, q))), Fintype.sum_prod_type]
    refine Finset.sum_congr rfl fun t _ => Finset.sum_congr rfl fun p _ => congrArg G (Fin.ext ?_)
    show 8192 * h.val + 1024 * t.val + p.val = (p.val + 1024 * t.val) + 8192 * h.val
    omega
  rw [← e, Fin.sum_univ_two, ← Finset.sum_add_distrib]
  rfl

end Cert.KernelIdeal.Cases
-- ==== Proof.Sweep.lean ====
module

public import proofs.«01_k».proof.Proof.Rows

@[expose] public section

set_option maxRecDepth 16384

noncomputable section

open Idealize.ShloMosaic Idealize.ShloMosaic.TcCoe Idealize.SL.Sem
open Cert.KernelIdeal Cert.KernelIdeal.Gen
open Idealize.ShloMosaic.Pointwise

/-! # What the carried buffers hold after the last point -/

namespace Cert.KernelIdeal.Cases

section Step

variable (x0 x1 : Vec Ideal S1x1024x2048 .f32) (x2 x3 : Vec Ideal S1x1x1024x1 .i32) (s : St Ideal)

/-- One point adds both blocks' class sums. -/
theorem step_g (k : Fin 15) (f : Fin 2048) : (step x0 x1 x2 x3 s).g (ix2 k f)
    = s.g (ix2 k f) + (res1 x0 x2 (ix2 ⟨k.val, by omega⟩ f) + res1 x1 x3 (ix2 ⟨k.val, by omega⟩ f)) := by
  show k0_pay30 (res1 x1 x3) s.g (k0_pay29 (res1 x0 x2)) (ix2 k f) = _
  generalize res1 x0 x2 = a
  generalize res1 x1 x3 = b
  pointwise [k0_pay30, k0_pay29]

/-- One point adds both blocks' log-sum-exps. -/
theorem step_acc : (step x0 x1 x2 x3 s).acc (ix2 0 0)
    = s.acc (ix2 0 0) + (k0_pay13 x0 (ix2 0 0) + k0_pay13 x1 (ix2 0 0)) := by
  show k0_pay28 (k0_pay13 x0) (k0_pay13 x1) s.acc (ix2 0 0) = _
  generalize k0_pay13 x0 = a
  generalize k0_pay13 x1 = b
  pointwise [k0_pay28]

/-- One point adds the first block's class counts. -/
theorem step_n1 (k : Fin 15) : (step x0 x1 x2 x3 s).n1 (ix2 k 0) = s.n1 (ix2 k 0) + cb1 x2 (ix2 ⟨k.val, by omega⟩ 0) := by
  show k0_pay31 (cb1 x2) s.n1 (ix2 k 0) = _
  generalize cb1 x2 = a
  pointwise [k0_pay31]

/-- One point adds the second block's class counts. -/
theorem step_n2 (k : Fin 15) : (step x0 x1 x2 x3 s).n2 (ix2 k 0) = s.n2 (ix2 k 0) + cb1 x3 (ix2 ⟨k.val, by omega⟩ 0) := by
  show k0_pay32 (cb1 x3) s.n2 (ix2 k 0) = _
  generalize cb1 x3 = a
  pointwise [k0_pay32]

/-- One point replaces the first half's last rows where its block has the class. -/
theorem step_l1 (k : Fin 15) (f : Fin 2048) : (step x0 x1 x2 x3 s).l1 (ix2 k f)
    = if 0 < cb1 (F := Ideal) x2 (ix2 ⟨k.val, by omega⟩ 0) then res1 x0 x2 (ix2 ⟨16 + k.val, by omega⟩ f) else s.l1 (ix2 k f) := by
  show k0_pay33 (res1 x0 x2) (cb1 x2) s.l1 (ix2 k f) = _
  generalize res1 x0 x2 = a
  generalize cb1 x2 = b
  pointwise [k0_pay33]

/-- One point replaces the second half's last rows where its block has the class. -/
theorem step_l2 (k : Fin 15) (f : Fin 2048) : (step x0 x1 x2 x3 s).l2 (ix2 k f)
    = if 0 < cb1 (F := Ideal) x3 (ix2 ⟨k.val, by omega⟩ 0) then res1 x1 x3 (ix2 ⟨16 + k.val, by omega⟩ f) else s.l2 (ix2 k f) := by
  show k0_pay1 (k0_pay34 (res1 x1 x3) (cb1 x3) s.l2) (ix2 k f) = _
  generalize res1 x1 x3 = a
  generalize cb1 x3 = b
  pointwise [k0_pay34, k0_pay1]

end Step

variable (m : (ℓ : Loc nD τ sig) → Buf (Elt Ideal) ℓ) (c : Dev nD)

/-- One where the row lies in the class, else zero. -/
def one (k : Fin 15) (r : Fin 16384) : EReal := if L m c r = BitVec.ofNat 32 k.val then 1 else 0

/-- What starts at zero and grows at every point holds the sum of the growths after the last. -/
theorem grows (φ : St Ideal → EReal) (D : Fin 8 → EReal) (h0 : ∀ x4, φ (start x4) = 0)
    (hs : ∀ t s, φ (stepAt m c t s) = φ s + D ⟨t.val, lt8 t⟩) : φ (stAt m c 7 lt7) = ∑ t, D t := by
  rw [Fin.sum_univ_eight]
  unfold stAt; rw [hs]; refine congrArg (· + D 7) ?_
  unfold stAt; rw [hs]; refine congrArg (· + D 6) ?_
  unfold stAt; rw [hs]; refine congrArg (· + D 5) ?_
  unfold stAt; rw [hs]; refine congrArg (· + D 4) ?_
  unfold stAt; rw [hs]; refine congrArg (· + D 3) ?_
  unfold stAt; rw [hs]; refine congrArg (· + D 2) ?_
  unfold stAt; rw [hs]; refine congrArg (· + D 1) ?_
  unfold stAt; rw [hs, h0, zero_add]; rfl

/-- The class softmax is kept through all points. -/
theorem last_t : (stAt m c 7 lt7).t = k0_pay3 (iblk m c 4 ⟨0, lt_trans (by norm_num) lt7⟩) := rfl

/-- After the last point the class sums are over all rows. -/
theorem last_g (k : Fin 15) (f : Fin 2048) : (stAt m c 7 lt7).g (ix2 k f) = ∑ r, one m c k r * X m c r f := by
  rw [sum_rows]
  refine grows m c (fun s => s.g (ix2 k f)) _ (fun x4 => by dsimp only [start]; pointwise [k0_pay4]) fun t s => ?_
  show (step (iblk m c 0 t) (iblk m c 1 t) (iblk m c 2 t) (iblk m c 3 t) s).g (ix2 k f) = _
  rw [step_g, res_sum, res_sum]
  simp only [iblk0, iblk1, iblk2, iblk3]
  rfl

/-- After the last point the log-sum-exps of all rows are summed. -/
theorem last_acc : (stAt m c 7 lt7).acc (ix2 0 0) = ∑ r, Ideal.log (∑ f, Ideal.exp (X m c r f)) := by
  rw [sum_rows]
  refine grows m c (fun s => s.acc (ix2 0 0)) _ (fun x4 => by dsimp only [start]; pointwise [k0_pay7]) fun t s => ?_
  show (step (iblk m c 0 t) (iblk m c 1 t) (iblk m c 2 t) (iblk m c 3 t) s).acc (ix2 0 0) = _
  rw [step_acc, lse_apply, lse_apply]
  simp only [iblk0, iblk1]

/-- After the last point the first counts are over the first half's rows. -/
theorem last_n1 (k : Fin 15) : (stAt m c 7 lt7).n1 (ix2 k 0)
    = ∑ t : Fin 8, ∑ p : Fin 1024, one m c k (row 0 t.val p.val (by omega) t.isLt p.isLt) := by
  refine grows m c (fun s => s.n1 (ix2 k 0)) _ (fun x4 => by dsimp only [start]; pointwise [k0_pay8]) fun t s => ?_
  show (step (iblk m c 0 t) (iblk m c 1 t) (iblk m c 2 t) (iblk m c 3 t) s).n1 (ix2 k 0) = _
  have hk : k.val % 16 = k.val := by omega
  rw [step_n1, cb_apply]
  simp only [iblk2, hk]
  rfl

/-- After the last point the second counts are over the second half's rows. -/
theorem last_n2 (k : Fin 15) : (stAt m c 7 lt7).n2 (ix2 k 0)
    = ∑ t : Fin 8, ∑ p : Fin 1024, one m c k (row 1 t.val p.val (by omega) t.isLt p.isLt) := by
  refine grows m c (fun s => s.n2 (ix2 k 0)) _ (fun x4 => by dsimp only [start]; pointwise [k0_pay11]) fun t s => ?_
  show (step (iblk m c 0 t) (iblk m c 1 t) (iblk m c 2 t) (iblk m c 3 t) s).n2 (ix2 k 0) = _
  have hk : k.val % 16 = k.val := by omega
  rw [step_n2, cb_apply]
  simp only [iblk3, hk]
  rfl

/-- Together the counts are over all rows. -/
theorem last_n (k : Fin 15) : (stAt m c 7 lt7).n1 (ix2 k 0) + (stAt m c 7 lt7).n2 (ix2 k 0) = ∑ r, one m c k r := by
  rw [sum_rows, last_n1, last_n2, ← Finset.sum_add_distrib]

/-- A sum of ones and zeros is positive exactly where a term is one. -/
theorem count_pos {ι : Type} [Fintype ι] (P : ι → Prop) [DecidablePred P] :
    0 < (∑ i, if P i then (1 : EReal) else 0) ↔ ∃ i, P i := by
  rw [Finset.sum_boole]
  constructor
  · intro h
    have h' : 0 < (Finset.univ.filter P).card := by exact_mod_cast h
    obtain ⟨i, hi⟩ := Finset.card_pos.mp h'
    exact ⟨i, (Finset.mem_filter.mp hi).2⟩
  · rintro ⟨i, hi⟩
    have h' : 0 < (Finset.univ.filter P).card := Finset.card_pos.mpr ⟨i, Finset.mem_filter.mpr ⟨Finset.mem_univ _, hi⟩⟩
    exact_mod_cast h'

/-- Row `p` of block `t` is the last of the class within the blocks of half `h` up to block `n`. -/
def LastIn (h : ℕ) (hh : h < 2) (k : Fin 15) (n : ℕ) (t : Fin 8) (p : Fin 1024) : Prop :=
  t.val ≤ n ∧ L m c (row h t.val p.val hh t.isLt p.isLt) = BitVec.ofNat 32 k.val
    ∧ ∀ (t' : Fin 8) (p' : Fin 1024), t'.val ≤ n → 1024 * t.val + p.val < 1024 * t'.val + p'.val →
      L m c (row h t'.val p'.val hh t'.isLt p'.isLt) ≠ BitVec.ofNat 32 k.val

/-- A step that takes the block's last row of the class, where there is one, keeps the last row so far. -/
theorem last_step (h : ℕ) (hh : h < 2) (k : Fin 15) (f : Fin 2048) (φ : St Ideal → EReal)
    (x : Fin cfg0.N → Vec Ideal S1x1024x2048 .f32) (l : Fin cfg0.N → Vec Ideal S1x1x1024x1 .i32)
    (hx : ∀ t p, x t (ix3 0 p f) = X m c (row h t.val p.val hh (lt8 t) p.isLt) f)
    (hl : ∀ t p, l t (ix4 0 0 p 0) = L m c (row h t.val p.val hh (lt8 t) p.isLt))
    (hs : ∀ t s, φ (stepAt m c t s) = if 0 < cb1 (F := Ideal) (l t) (ix2 ⟨k.val, by omega⟩ 0)
      then res1 (x t) (l t) (ix2 ⟨16 + k.val, by omega⟩ f) else φ s) :
    ∀ (n : ℕ) (hn : n < cfg0.N) (t : Fin 8) (p : Fin 1024), LastIn m c h hh k n t p →
      φ (stAt m c n hn) = X m c (row h t.val p.val hh t.isLt p.isLt) f := by
  have key : ∀ (n : ℕ) (hn : n < cfg0.N) (t : Fin 8) (p : Fin 1024) (s : St Ideal), LastIn m c h hh k n t p →
      (t.val ≠ n → φ s = X m c (row h t.val p.val hh t.isLt p.isLt) f) →
      φ (stepAt m c ⟨n, hn⟩ s) = X m c (row h t.val p.val hh t.isLt p.isLt) f := by
    intro n hn t p s ⟨ht, hL, hlast⟩ ih
    have hk : k.val % 16 = k.val := by omega
    rw [hs, cb_apply]
    simp only [hk, count_pos]
    by_cases htn : t.val = n
    · subst htn
      rw [if_pos ⟨p, by rw [hl]; exact hL⟩, res_last (q := p), hx]
      · rw [hl]; exact hL
      · intro p' hp'
        rw [hl]
        exact hlast t p' le_rfl (by have : p.val < p'.val := hp'; omega)
    · rw [if_neg, ih htn]
      rintro ⟨p', hp'⟩
      rw [hl] at hp'
      exact hlast ⟨n, lt8 ⟨n, hn⟩⟩ p' le_rfl (by dsimp only; omega) hp'
  intro n
  induction n with
  | zero =>
    intro hn t p hla
    exact key 0 hn t p _ hla fun h0 => absurd (Nat.le_zero.mp hla.1) h0
  | succ n ih =>
    intro hn t p hla
    refine key (n + 1) hn t p _ hla fun h0 => ih _ t p ⟨by have := hla.1; omega, hla.2.1, fun t' p' h1 h2 => hla.2.2 t' p' (by omega) h2⟩

/-- After the last point the first half's last row of a class is held. -/
theorem last_l1 (k : Fin 15) (f : Fin 2048) (t : Fin 8) (p : Fin 1024) (hla : LastIn m c 0 (by omega) k 7 t p) :
    (stAt m c 7 lt7).l1 (ix2 k f) = X m c (row 0 t.val p.val (by omega) t.isLt p.isLt) f :=
  last_step m c 0 (by omega) k f (fun s => s.l1 (ix2 k f)) (iblk m c 0) (iblk m c 2) (fun t p => iblk0 m c t p f)
    (iblk2 m c) (fun t s => step_l1 _ _ _ _ s k f) 7 lt7 t p hla

/-- After the last point the second half's last row of a class is held. -/
theorem last_l2 (k : Fin 15) (f : Fin 2048) (t : Fin 8) (p : Fin 1024) (hla : LastIn m c 1 (by omega) k 7 t p) :
    (stAt m c 7 lt7).l2 (ix2 k f) = X m c (row 1 t.val p.val (by omega) t.isLt p.isLt) f :=
  last_step m c 1 (by omega) k f (fun s => s.l2 (ix2 k f)) (iblk m c 1) (iblk m c 3) (fun t p => iblk1 m c t p f)
    (iblk3 m c) (fun t s => step_l2 _ _ _ _ s k f) 7 lt7 t p hla

end Cert.KernelIdeal.Cases
-- ==== Proof.Table.lean ====
module

public import proofs.«01_k».proof.Proof.Sweep

@[expose] public section

set_option maxRecDepth 16384

noncomputable section

open Idealize.ShloMosaic Idealize.ShloMosaic.TcCoe Idealize.SL.Sem
open Cert.KernelIdeal Cert.KernelIdeal.Gen
open Idealize.ShloMosaic.Pointwise

/-! # The two results the last point computes -/

namespace Cert.KernelIdeal.Cases

/-- The new table at an entry. -/
theorem out_apply (x4 : Vec Ideal S15x2048 .f32) (s : St Ideal) (k : Fin 15) (f : Fin 2048) : outOf x4 s (ix2 k f)
    = if 0 < s.n1 (ix2 k 0) + s.n2 (ix2 k 0) then x4 (ix2 k f) * Ideal.ofBits .f32 0x3F7FFF58#32
        + (if 0 < s.n2 (ix2 k 0) then s.l2 (ix2 k f) else s.l1 (ix2 k f)) * Ideal.ofBits .f32 0x3727C5AC#32
      else x4 (ix2 k f) := by
  unfold outOf
  pointwise [k0_pay2, k0_pay9]

/-- The maximum of a row as both programs compute it. -/
def mx (a : Fin 2048 → EReal) : EReal := Finset.fold max (Ideal.ofBits .f32 0xFF800000#32) a Finset.univ

/-- The softmax of a row as both programs compute it. -/
def sm (a : Fin 2048 → EReal) (f : Fin 2048) : EReal := Ideal.div (Ideal.exp (a f - mx a)) (∑ f', Ideal.exp (a f' - mx a))

/-- The class softmax at an entry. -/
theorem t_apply (x4 : Vec Ideal S15x2048 .f32) (k : Fin 15) (f : Fin 2048) : k0_pay3 x4 (ix2 k f) = sm (fun f' => x4 (ix2 k f')) f := by
  pointwise [k0_pay3, sm, mx]

/-- The loss from the carried buffers. -/
theorem loss_apply (x4 : Vec Ideal S15x2048 .f32) (s : St Ideal) : lossOf x4 s (ix2 0 0)
    = min (Ideal.ofBits .f32 0x47C35000#32) (max (Ideal.ofBits .f32 0x3727C5AC#32) (Ideal.div
        (∑ k : Fin 15, (∑ f, s.t (ix2 k f) * (x4 (ix2 k f) - (mx (fun f' => x4 (ix2 k f'))
            + Ideal.log (∑ f', Ideal.exp (x4 (ix2 k f') - mx (fun f' => x4 (ix2 k f')))))))
            * (s.n1 (ix2 k 0) + s.n2 (ix2 k 0))
          - ∑ k, ∑ f, s.t (ix2 k f) * s.g (ix2 k f) + s.acc (ix2 0 0))
        (Ideal.ofBits .f32 0x46800000#32))) := by
  unfold lossOf
  pointwise [k0_pay10, k0_pay9, mx]

variable (m : (ℓ : Loc nD τ sig) → Buf (Elt Ideal) ℓ) (c : Dev nD)

/-- The sum of the rows' losses as the kernel arranges it. -/
def total : EReal :=
  ∑ k : Fin 15, (∑ f, sm (T m c k) f * (T m c k f - (mx (T m c k) + Ideal.log (∑ f', Ideal.exp (T m c k f' - mx (T m c k))))))
      * (∑ r, one m c k r)
    - ∑ k, ∑ f, sm (T m c k) f * (∑ r, one m c k r * X m c r f) + ∑ r, Ideal.log (∑ f, Ideal.exp (X m c r f))

/-- The loss from buffers that hold the sums over all rows. -/
theorem loss_of (x4 : Vec Ideal S15x2048 .f32) (s : St Ideal) (hx : ∀ k f, x4 (ix2 k f) = T m c k f)
    (ht : ∀ k f, s.t (ix2 k f) = sm (T m c k) f) (hg : ∀ k f, s.g (ix2 k f) = ∑ r, one m c k r * X m c r f)
    (hn : ∀ k, s.n1 (ix2 k 0) + s.n2 (ix2 k 0) = ∑ r, one m c k r)
    (ha : s.acc (ix2 0 0) = ∑ r, Ideal.log (∑ f, Ideal.exp (X m c r f))) :
    lossOf x4 s (ix2 0 0) = min (Ideal.ofBits .f32 0x47C35000#32) (max (Ideal.ofBits .f32 0x3727C5AC#32)
      (Ideal.div (total m c) (Ideal.ofBits .f32 0x46800000#32))) := by
  rw [loss_apply, ha]
  simp only [hx, ht, hg, hn]
  rfl

/-- The loss the kernel returns. -/
theorem loss_eq : loss m c (ix2 0 0) = min (Ideal.ofBits .f32 0x47C35000#32) (max (Ideal.ofBits .f32 0x3727C5AC#32)
    (Ideal.div (total m c) (Ideal.ofBits .f32 0x46800000#32))) :=
  loss_of m c _ _ (iblk4 m c _) (fun k f => (congrFun (last_t m c) _).trans ((t_apply _ k f).trans
    (congrArg (fun a => sm a f) (funext fun f' => iblk4 m c _ k f')))) (last_g m c) (last_n m c) (last_acc m c)

/-- The last row of a class. -/
def IsLast (k : Fin 15) (r : Fin 16384) : Prop :=
  L m c r = BitVec.ofNat 32 k.val ∧ ∀ r', r < r' → L m c r' ≠ BitVec.ofNat 32 k.val

/-- A class without rows keeps its table row. -/
theorem table_miss (k : Fin 15) (f : Fin 2048) (h : ∀ r, L m c r ≠ BitVec.ofNat 32 k.val) : table m c (ix2 k f) = T m c k f := by
  unfold table
  rw [out_apply, last_n, if_neg, iblk4]
  unfold one
  rw [count_pos]
  rintro ⟨r, hr⟩
  exact h r hr

/-- A class with rows blends its table row with its last row. -/
theorem table_hit (k : Fin 15) (f : Fin 2048) (r : Fin 16384) (h : IsLast m c k r) : table m c (ix2 k f)
    = T m c k f * Ideal.ofBits .f32 0x3F7FFF58#32 + X m c r f * Ideal.ofBits .f32 0x3727C5AC#32 := by
  obtain ⟨hL, hlast⟩ := h
  have hr := r.isLt
  have hpos : 0 < (stAt m c 7 lt7).n1 (ix2 k 0) + (stAt m c 7 lt7).n2 (ix2 k 0) := by
    rw [last_n]
    unfold one
    exact (count_pos _).mpr ⟨r, hL⟩
  unfold table
  rw [out_apply, if_pos hpos, iblk4]
  congr 2
  by_cases hh : r.val < 8192
  · have hrow : row 0 (r.val / 1024) (r.val % 1024) (by omega) (by omega) (by omega) = r := by
      apply Fin.ext; unfold row; dsimp only; omega
    rw [if_neg, last_l1 m c k f ⟨r.val / 1024, by omega⟩ ⟨r.val % 1024, by omega⟩]
    · exact congrArg (fun r => X m c r f) hrow
    · refine ⟨by dsimp only; omega, ?_, fun t' p' _ hlt => hlast _ ?_⟩
      · exact (congrArg (L m c) hrow).trans hL
      · show r.val < 8192 * 0 + 1024 * t'.val + p'.val
        dsimp only at hlt
        omega
    · rw [last_n2]
      intro h0
      have h1 : ∑ t : Fin 8, ∑ p : Fin 1024, one m c k (row 1 t.val p.val (by omega) t.isLt p.isLt) = 0 := by
        refine Finset.sum_eq_zero fun t _ => Finset.sum_eq_zero fun p _ => if_neg (hlast _ ?_)
        show r.val < 8192 * 1 + 1024 * t.val + p.val
        omega
      rw [h1] at h0
      exact lt_irrefl _ h0
  · have hrow : row 1 ((r.val - 8192) / 1024) (r.val % 1024) (by omega) (by omega) (by omega) = r := by
      apply Fin.ext; unfold row; dsimp only; omega
    rw [if_pos, last_l2 m c k f ⟨(r.val - 8192) / 1024, by omega⟩ ⟨r.val % 1024, by omega⟩]
    · exact congrArg (fun r => X m c r f) hrow
    · refine ⟨by dsimp only; omega, ?_, fun t' p' _ hlt => hlast _ ?_⟩
      · exact (congrArg (L m c) hrow).trans hL
      · show r.val < 8192 * 1 + 1024 * t'.val + p'.val
        dsimp only at hlt
        omega
    · rw [last_n2, ← Fintype.sum_prod_type']
      unfold one
      exact (count_pos _).mpr ⟨(⟨(r.val - 8192) / 1024, by omega⟩, ⟨r.val % 1024, by omega⟩), (congrArg (L m c) hrow).trans hL⟩

end Cert.KernelIdeal.Cases
-- ==== Proof.RefRead.lean ====
module

public import proofs.«01_k».proof.Proof.Staged
public import proofs.«01_k».proof.Proof.Table
public import Idealize.ShloMosaic.Lib.Pointwise
public import Idealize.ShloMosaic.Lib.ReduceAll
public import Idealize.ShloMosaic.Lib.Routing.OpsSet
public import Idealize.ShloMosaic.Lib.Routing.OpsPair
public import Idealize.ShloMosaic.Lib.LaneScatter.Pure

@[expose] public section

set_option maxRecDepth 16384

noncomputable section

open Idealize.ShloMosaic Idealize.ShloMosaic.TcCoe Idealize.SL.Sem
open Cert.ReferenceIdeal Cert.ReferenceIdeal.Gen
open Idealize.ShloMosaic.Pointwise

/-! # The reference's stages read at an entry, at the extended reals -/

namespace Cert.ReferenceIdeal.Staged

variable (l : Vec Ideal S16384 .i32) (cls : Fin 16384 → Fin 15) (hl : ∀ r, l (ix1 r) = BitVec.ofNat 32 (cls r).val)

/-- A label plus one, as the lookup indexes it. -/
theorem lut_index : ∀ k : Fin 15, Scalar.select (IntOp.cmpi .slt (IntOp.addi (BitVec.ofNat 32 k.val) 1#32) 0#32)
    (IntOp.addi (IntOp.addi (BitVec.ofNat 32 k.val) 1#32) 21#32) (IntOp.addi (BitVec.ofNat 32 k.val) 1#32)
    = BitVec.ofNat 32 (k.val + 1) := by
  decide +kernel

/-- The label table at a label plus one is the label. -/
theorem lut_value : ∀ k : Fin 15, lit0 (S21.rowMajor (ix1 ⟨k.val + 1, by omega⟩)) = BitVec.ofNat 32 k.val := by
  decide +kernel

include hl in
/-- The class looked up for a row is its label. -/
theorem looked_apply (r : Fin 16384) : looked (F := Ideal) l (ix1 r) = BitVec.ofNat 32 (cls r).val := by
  have hk := (cls r).isLt
  unfold looked
  refine (Routing.gather_take1 (N := 21) (n := 16384) gather_S21_S16384x1_S16384_n_0_n_n_0_1_1 rfl rfl rfl rfl _ _ r
    ⟨(cls r).val + 1, by omega⟩ ?_ (by norm_num)).trans (lut_value (cls r))
  show (broadcastInDim S16384x1 ![0] bcast_S16384_S16384x1_0
    (select (cmpi .slt (addi l (broadcastInDim S16384 ![] bcast_S_S16384 (constantI S_ 32 1#32))) (broadcastInDim S16384 ![] bcast_S_S16384 (constantI S_ 32 0#32)))
      (addi (addi l (broadcastInDim S16384 ![] bcast_S_S16384 (constantI S_ 32 1#32))) (broadcastInDim S16384 ![] bcast_S_S16384 (constantI S_ 32 21#32)))
      (addi l (broadcastInDim S16384 ![] bcast_S_S16384 (constantI S_ 32 1#32)))) : Vec Ideal S16384x1 .i32) (ix2 r 0) = _
  pointwise []
  rw [hl]
  exact lut_index (cls r)

/-- A class as a row number is itself. -/
theorem wrap_class : ∀ k : Fin 15, Scalar.select (IntOp.cmpi .slt (BitVec.ofNat 32 k.val) 0#32)
    (IntOp.addi (BitVec.ofNat 32 k.val) 15#32) (BitVec.ofNat 32 k.val) = BitVec.ofNat 32 k.val := by
  decide +kernel

include hl in
/-- The row number of a row is its label. -/
theorem rows_apply (r : Fin 16384) : rows (F := Ideal) l (ix2 r 0) = BitVec.ofNat 32 (cls r).val := by
  unfold rows wrapped
  pointwise []
  rw [looked_apply l cls hl]
  exact wrap_class (cls r)

/-- A class lies in the table. -/
theorem class_inside : ∀ k : Fin 15, IntOp.andi (IntOp.cmpi .sge (BitVec.ofNat 32 k.val) 0#32)
    (IntOp.cmpi .sle (BitVec.ofNat 32 k.val) 14#32) = 1#1 := by
  decide +kernel

include hl in
/-- All row numbers lie in the table. -/
theorem inside_apply (r : Fin 16384) : inside (F := Ideal) (rows (F := Ideal) l) (ix1 r) = 1#1 := by
  unfold inside
  refine Host.reduce_andi_one _ _ _ _ _ rfl fun i => ?_
  obtain ⟨p, q, rfl⟩ : ∃ p q, i = ix2 p q := ⟨i 0, i 1, by funext a; match a with | ⟨0, _⟩ => rfl | ⟨1, _⟩ => rfl⟩
  obtain rfl : q = 0 := Subsingleton.elim _ _
  have h := rows_apply l cls hl p
  generalize rows (F := Ideal) l = i at h ⊢
  pointwise []
  rw [h]
  exact class_inside (cls p)

include hl in
/-- The taken row of a row is its label's table row. -/
theorem taken_apply (tb : Vec Ideal S15x2048 .f32) (r : Fin 16384) (f : Fin 2048) :
    taken tb (rows (F := Ideal) l) (ix2 r f) = tb (ix2 (cls r) f) := by
  have hg : Host.gather gather_S15x2048_S16384x1_S16384x2048_1_0_n_n_0_1_12048 tb (rows (F := Ideal) l) (ix2 r f) = tb (ix2 (cls r) f) :=
    Routing.gather_row (nb := 15) (B := 2048) (n := 16384) gather_S15x2048_S16384x1_S16384x2048_1_0_n_n_0_1_12048 rfl rfl rfl rfl rfl tb _ r f (cls r)
      (rows_apply l cls hl r) (by norm_num)
  have hi := inside_apply l cls hl r
  unfold taken
  generalize inside (F := Ideal) (rows (F := Ideal) l) = i at hi ⊢
  show Scalar.select (broadcastInDim S16384x2048 ![0] bcast_S16384_S16384x2048_0 i (ix2 r f)) _ _ = _
  rw [hg]
  pointwise []
  rw [hi]
  rfl

open Cert.KernelIdeal.Cases (mx sm)

/-- The maximum of a row. -/
theorem rowmax_apply (z : Vec Ideal S16384x2048 .f32) (v : Vec Ideal S_ .f32) (r : Fin 16384) :
    Host.reduce (FloatOps.maximumf (F := Ideal) (φ := .f32)) z v reducesTo_S16384x2048_S16384_d1 h_S_ (ix1 r)
      = Finset.fold max (v (Shape.Idx.first h_S_)) (fun f => z (ix2 r f)) Finset.univ := by
  pointwise []

/-- The greater of a row's maximum and where it starts is the maximum. -/
theorem max_fold {ι : Type} [Fintype ι] (b : EReal) (a : ι → EReal) : max b (Finset.fold max b a Finset.univ) = Finset.fold max b a Finset.univ :=
  max_eq_right ((Finset.le_fold_max b).mpr (Or.inl le_rfl))

/-- A row less a number of its own. -/
theorem less_apply (z : FVec Ideal S16384x2048 .f32) (v : FVec Ideal S16384 .f32) (r : Fin 16384) (f : Fin 2048) :
    subf z (broadcastInDim S16384x2048 ![0, 1] bcast_S16384x1_S16384x2048_0_1 (broadcastInDim S16384x1 ![0] bcast_S16384_S16384x1_0 v)) (ix2 r f)
      = z (ix2 r f) - v (ix1 r) := by
  pointwise []

/-- The greater of the starting number and a row's. -/
theorem greater_apply (v : FVec Ideal S16384 .f32) (r : Fin 16384) :
    maximumf (broadcastInDim S16384 ![] bcast_S_S16384 (constant S_ .f32 0xFF800000#32)) v (ix1 r)
      = max (Ideal.ofBits .f32 0xFF800000#32) (v (ix1 r)) := by
  pointwise []

/-- A row less its maximum. -/
theorem shifted_apply (z : Vec Ideal S16384x2048 .f32) (r : Fin 16384) (f : Fin 2048) :
    shifted z (ix2 r f) = z (ix2 r f) - mx (fun f' => z (ix2 r f')) := by
  unfold shifted
  refine (less_apply z _ r f).trans (congrArg (z (ix2 r f) - ·) ?_)
  refine (greater_apply _ r).trans ?_
  rw [rowmax_apply]
  exact max_fold _ _

/-- The sum of a row. -/
theorem rowsum_apply (z : FVec Ideal S16384x2048 .f32) (r : Fin 16384) :
    Host.reduceAdd z (constant S_ .f32 0x00000000#32) reducesTo_S16384x2048_S16384_d1 h_S_ (ix1 r) = ∑ f : Fin 2048, z (ix2 r f) := by
  pointwise []

/-- The row sum of the exponentials. -/
theorem expsum_apply (y : Vec Ideal S16384x2048 .f32) (r : Fin 16384) : expsum y (ix2 r 0) = ∑ f, Ideal.exp (y (ix2 r f)) := by
  have h := rowsum_apply (Host.exp (F := Ideal) (φ := .f32) y) r
  unfold expsum
  generalize Host.reduceAdd (Host.exp (F := Ideal) (φ := .f32) y) (constant S_ .f32 0x00000000#32) reducesTo_S16384x2048_S16384_d1 h_S_ = a at h ⊢
  pointwise []
  exact h

/-- The logarithm of a row's softmax. -/
theorem logsoft_apply (z : Vec Ideal S16384x2048 .f32) (r : Fin 16384) (f : Fin 2048) : logsoft z (ix2 r f)
    = z (ix2 r f) - mx (fun f' => z (ix2 r f')) - Ideal.log (∑ f', Ideal.exp (z (ix2 r f') - mx (fun f' => z (ix2 r f')))) := by
  have h1 := shifted_apply z r
  have h2 := expsum_apply (shifted z) r
  unfold logsoft
  generalize shifted z = y at h1 h2 ⊢
  generalize expsum y = e at h2 ⊢
  pointwise []
  simp only [h1, h2]

/-- A row's softmax. -/
theorem soft_apply (z : Vec Ideal S16384x2048 .f32) (r : Fin 16384) (f : Fin 2048) : soft z (ix2 r f) = sm (fun f' => z (ix2 r f')) f := by
  have h1 := shifted_apply z r
  have h2 := expsum_apply (shifted z) r
  unfold soft sm
  generalize shifted z = y at h1 h2 ⊢
  generalize expsum y = e at h2 ⊢
  pointwise []
  simp only [h1, h2]

/-- The sum of all entries. -/
theorem allsum_apply (z : FVec Ideal S16384x2048 .f32) (i : S_.Idx) :
    Host.reduceAdd z (constant S_ .f32 0x00000000#32) reducesTo_S16384x2048_S_d0_1 h_S_ i = ∑ r : Fin 16384, ∑ f : Fin 2048, z (ix2 r f) := by
  pointwise []

/-- The clipped mean from the sum. -/
theorem clip_apply (t : FVec Ideal S_ .f32) (i : S_.Idx) :
    minimumf (id (constant S_ .f32 0x47C35000#32)) (maximumf (id (constant S_ .f32 0x3727C5AC#32)) (Host.divf t (constant S_ .f32 0x46800000#32))) i
      = min (Ideal.ofBits .f32 0x47C35000#32) (max (Ideal.ofBits .f32 0x3727C5AC#32) (Ideal.div (t i) (Ideal.ofBits .f32 0x46800000#32))) := rfl

/-- The divergences at an entry. -/
theorem term_apply (a b : FVec Ideal S16384x2048 .f32) (j : S16384x2048.Idx) :
    mulf a (subf (Host.log a) b) j = a j * (Ideal.log (a j) - b j) := rfl

/-- The clipped mean over all entries. -/
theorem lossOf_apply (s x : Vec Ideal S16384x2048 .f32) (i : S_.Idx) : lossOf s x i
    = min (Ideal.ofBits .f32 0x47C35000#32) (max (Ideal.ofBits .f32 0x3727C5AC#32)
      (Ideal.div (∑ r : Fin 16384, ∑ f : Fin 2048, soft s (ix2 r f) * (Ideal.log (soft s (ix2 r f)) - logsoft x (ix2 r f)))
        (Ideal.ofBits .f32 0x46800000#32))) := by
  unfold lossOf
  refine (clip_apply _ i).trans ?_
  rw [allsum_apply]
  simp only [term_apply]

/-- The blend at an entry. -/
theorem blended_apply (s x : Vec Ideal S16384x2048 .f32) (r : Fin 16384) (f : Fin 2048) : blended s x (ix2 r f)
    = s (ix2 r f) * Ideal.ofBits .f32 0x3F7FFF58#32 + x (ix2 r f) * Ideal.ofBits .f32 0x3727C5AC#32 := by
  pointwise [blended]

end Cert.ReferenceIdeal.Staged
-- ==== Proof.Scatter.lean ====
module

public import proofs.«01_k».proof.Proof.RefRead

@[expose] public section

set_option maxRecDepth 16384

noncomputable section

open Idealize.ShloMosaic Idealize.ShloMosaic.TcCoe Idealize.SL.Sem
open Cert.ReferenceIdeal Cert.ReferenceIdeal.Gen
open Idealize.ShloMosaic.Pointwise

/-! # The reference's scatter: the last row of a class wins -/

namespace Cert.ReferenceIdeal.Staged

/-- The scatter of whole rows into the table. -/
abbrev sd : ScatterDims S15x2048 S16384x1 S16384x2048 := scatter_S15x2048_S16384x1_S16384x2048_1_0_0_1

variable (i : IVec S16384x1 32)

/-- An update's row starts at its row number. -/
theorem start0 (r : Fin 16384) (f : Fin 2048) : sd.start (ix2 r f) i 0 = (i (ix2 r 0)).toInt := by
  unfold ScatterDims.start
  rw [dif_pos (by decide)]
  refine congrArg (fun j => (i j).toInt) (funext fun b => Fin.ext ?_)
  match b with
  | ⟨0, _⟩ => rfl
  | ⟨1, _⟩ => rfl

/-- An update's columns start at zero. -/
theorem start1 (r : Fin 16384) (f : Fin 2048) : sd.start (ix2 r f) i 1 = 0 := by
  unfold ScatterDims.start
  rw [dif_neg (by decide)]

/-- An update keeps to its row. -/
theorem window0 (r : Fin 16384) (f : Fin 2048) : sd.window (ix2 r f) 0 = 0 := by
  unfold ScatterDims.window
  rw [dif_neg (by decide)]

/-- An update keeps its column. -/
theorem window1 (r : Fin 16384) (f : Fin 2048) : sd.window (ix2 r f) 1 = f.val := by
  unfold ScatterDims.window
  rw [dif_pos (by decide)]
  rfl

/-- An update lands on the entry of its row number and its column. -/
theorem lands (r : Fin 16384) (f f' : Fin 2048) (k : Fin 15) :
    sd.resultIdx? (ix2 r f') i = some (ix2 k f) ↔ (i (ix2 r 0)).toInt = (k.val : Int) ∧ f' = f := by
  refine (Routing.resultIdx?_ix2 (R := 15) (C := 2048) sd (ix2 r f') i k f).trans ?_
  rw [start0, start1, window0, window1]
  refine and_congr (by simp) ?_
  rw [Fin.ext_iff]
  omega

/-- How many updates there are. -/
theorem numel_eq : S16384x2048.numel = 16384 * 2048 := by
  unfold Shape.numel
  exact Fin.prod_univ_two _

variable (cls : Fin 16384 → Fin 15) (hi : ∀ r, i (ix2 r 0) = BitVec.ofNat 32 (cls r).val)

include hi in
/-- A row number read signed is its class. -/
theorem signed (r : Fin 16384) : (i (ix2 r 0)).toInt = ((cls r).val : Int) := by
  rw [hi]
  revert r
  intro r
  generalize cls r = k
  revert k
  decide

open Classical in
include hi in
/-- The entry of a class holds the update of the class's last row. -/
theorem scatter_last {α : Type} (x0 : S15x2048.Idx → α) (u : S16384x2048.Idx → α) (k : Fin 15) (f : Fin 2048) (r : Fin 16384)
    (hr : cls r = k) (hlast : ∀ r', r < r' → cls r' ≠ k) :
    Host.scatter sd (fun _ b => b) x0 i u (ix2 k f) = u (ix2 r f) := by
  let hit : ℕ → Prop := fun n => n % 2048 = f.val ∧ ∃ h : n / 2048 < 16384, cls ⟨n / 2048, h⟩ = k
  let val : ℕ → α := fun n => if h : n / 2048 < 16384 then u (ix2 ⟨n / 2048, h⟩ f) else u (ix2 r f)
  have hval : ∀ (n : ℕ) (h : n / 2048 < 16384), val n = u (ix2 ⟨n / 2048, h⟩ f) := fun n h => dif_pos h
  have hN := numel_eq
  have hf := f.isLt
  have hrl := r.isLt
  rw [Routing.scatter_at]
  have key : (fun (a : α) (n : Fin S16384x2048.numel) => if sd.resultIdx? (S16384x2048.rowMajor.symm n) i = some (ix2 k f)
      then u (S16384x2048.rowMajor.symm n) else a) = fun a n => if hit n.val then val n.val else a := by
    funext a n
    have hn := n.isLt
    have h1 : n.val / 2048 < 16384 := by omega
    have h2 : n.val % 2048 < 2048 := by omega
    have es : S16384x2048.rowMajor.symm n = ix2 (⟨n.val / 2048, h1⟩ : Fin 16384) (⟨n.val % 2048, h2⟩ : Fin 2048) := Routing.symm22 n h1 h2
    rw [es]
    have hl := lands i ⟨n.val / 2048, h1⟩ f ⟨n.val % 2048, h2⟩ k
    by_cases h : hit n.val
    · obtain ⟨hm, _, hc⟩ := h
      have hm' : (⟨n.val % 2048, h2⟩ : Fin 2048) = f := Fin.ext hm
      rw [if_pos (hl.mpr ⟨by rw [signed i cls hi, hc], hm'⟩), if_pos ⟨hm, h1, hc⟩, hm']
      exact (hval n.val h1).symm
    · rw [if_neg h, if_neg]
      intro q
      obtain ⟨ha, hb⟩ := hl.mp q
      rw [signed i cls hi] at ha
      exact h ⟨congrArg Fin.val hb, h1, Fin.ext (by exact_mod_cast ha)⟩
  refine (congrArg (fun g => List.foldl g (x0 (ix2 k f)) (List.finRange S16384x2048.numel)) key).trans ?_
  rw [Routing.foldl_finRange_lastHit hit val]
  have hd : (2048 * r.val + f.val) / 2048 = r.val := by omega
  have hmod : (2048 * r.val + f.val) % 2048 = f.val := by omega
  have hv : val (2048 * r.val + f.val) = u (ix2 r f) :=
    (hval _ (by omega)).trans (congrArg (fun q => u (ix2 q f)) (Fin.ext hd))
  rw [← hv]
  refine LaneScatter.lastHit_of_last val _ ⟨hmod, by omega, ?_⟩ (by omega) ?_
  · rintro n hn hlt ⟨hm, hq, hc⟩
    exact hlast ⟨n / 2048, hq⟩ (by show r.val < n / 2048; omega) hc
  · rw [← hr]; exact congrArg cls (Fin.ext hd)

include hi in
/-- The entry of a class without rows is kept. -/
theorem scatter_none {α : Type} (x0 : S15x2048.Idx → α) (u : S16384x2048.Idx → α) (k : Fin 15) (f : Fin 2048) (h : ∀ r, cls r ≠ k) :
    Host.scatter sd (fun _ b => b) x0 i u (ix2 k f) = x0 (ix2 k f) := by
  refine Routing.scatter_set_miss sd x0 i u (ix2 k f) fun j q => ?_
  obtain ⟨r, f', rfl⟩ : ∃ r f', j = ix2 r f' := ⟨j 0, j 1, by funext a; match a with | ⟨0, _⟩ => rfl | ⟨1, _⟩ => rfl⟩
  have ha := ((lands i r f f' k).mp q).1
  rw [signed i cls hi] at ha
  exact h r (Fin.ext (by exact_mod_cast ha))

end Cert.ReferenceIdeal.Staged
-- ==== Proof.Equation.lean ====
module

public import Idealize.ShloMosaic.Lib.IdealHost
public import Mathlib.Tactic.Ring

@[expose] public section

set_option maxRecDepth 16384

noncomputable section

open Idealize.ShloMosaic

/-! # The equation of the two losses -/

namespace Cert.Equation

/-- The reals' embedding, as an additive map. -/
def emb : ℝ →+ EReal := ⟨⟨Real.toEReal, EReal.coe_zero⟩, EReal.coe_add⟩

/-- A sum of reals embeds as the sum. -/
theorem coe_total {ι : Type} (s : Finset ι) (a : ι → ℝ) : ((∑ i ∈ s, a i : ℝ) : EReal) = ∑ i ∈ s, (a i : EReal) := map_sum emb a s

section Rows

variable {φ : Type} [Fintype φ] [Nonempty φ]

/-- The logarithm of the sum of the exponentials. -/
def lse (a : φ → ℝ) : ℝ := Real.log (∑ f, Real.exp (a f))

/-- A sum of exponentials is positive. -/
theorem expsum_pos (a : φ → ℝ) : 0 < ∑ f, Real.exp (a f) := Finset.sum_pos (fun f _ => Real.exp_pos _) Finset.univ_nonempty

/-- A row less a number sums to the exponential sum over the number's exponential. -/
theorem expsum_shift (a : φ → ℝ) (M : ℝ) : ∑ f, Real.exp (a f - M) = (∑ f, Real.exp (a f)) * Real.exp (-M) := by
  rw [Finset.sum_mul]
  exact Finset.sum_congr rfl fun f _ => by rw [← Real.exp_add, sub_eq_add_neg]

/-- The log-sum-exp of a shifted row. -/
theorem log_shift (a : φ → ℝ) (M : ℝ) : Real.log (∑ f, Real.exp (a f - M)) = lse a - M := by
  rw [expsum_shift, Real.log_mul (expsum_pos a).ne' (Real.exp_pos _).ne', Real.log_exp]
  rfl

/-- The softmax weights sum to one. -/
theorem weights_sum (a : φ → ℝ) : ∑ f, Real.exp (a f - lse a) = 1 := by
  rw [expsum_shift, lse, Real.exp_neg, Real.exp_log (expsum_pos a)]
  exact mul_inv_cancel₀ (expsum_pos a).ne'

/-- A maximum over reals from below all of them is real. -/
theorem fold_real (a : φ → ℝ) : ∃ M : ℝ, Finset.fold max (⊥ : EReal) (fun f => (a f : EReal)) Finset.univ = (M : EReal) := by
  classical
  have key : ∀ s : Finset φ, s.Nonempty → ∃ M : ℝ, Finset.fold max (⊥ : EReal) (fun f => (a f : EReal)) s = (M : EReal) := by
    intro s hs
    induction hs using Finset.Nonempty.cons_induction with
    | singleton f => exact ⟨a f, by rw [Finset.fold_singleton]; exact max_eq_left bot_le⟩
    | cons f s hf hs ih =>
      obtain ⟨M, hM⟩ := ih
      refine ⟨max (a f) M, ?_⟩
      rw [Finset.fold_cons, hM]
      exact (EReal.coe_strictMono.monotone.map_max).symm
  exact key _ Finset.univ_nonempty

/-- The logarithm of an embedded sum of exponentials. -/
theorem log_sum (a : φ → ℝ) : Ideal.log (∑ f, Ideal.exp (a f : EReal)) = (lse a : EReal) := by
  simp only [Ideal.exp_coe]
  rw [← coe_total, Ideal.log_coe, if_neg (not_le.mpr (expsum_pos a))]
  rfl

/-- The logarithm of an embedded sum of shifted exponentials. -/
theorem log_sum_shift (a : φ → ℝ) (M : ℝ) : Ideal.log (∑ f, Ideal.exp ((a f : EReal) - (M : EReal))) = ((lse a - M : ℝ) : EReal) := by
  have h := log_sum fun f => a f - M
  simp only [EReal.coe_sub] at h
  rw [h]
  exact congrArg _ (log_shift a M)

/-- The softmax of a row of reals, by its maximum or any other shift. -/
theorem soft_real (a : φ → ℝ) (M : ℝ) (f : φ) :
    Ideal.div (Ideal.exp ((a f : EReal) - (M : EReal))) (∑ f', Ideal.exp ((a f' : EReal) - (M : EReal))) = (Real.exp (a f - lse a) : EReal) := by
  have hp := expsum_pos fun f => a f - M
  simp only [← EReal.coe_sub, Ideal.exp_coe]
  rw [← coe_total, Ideal.div_coe hp.ne', ← EReal.coe_mul]
  refine congrArg _ ?_
  have e : Real.exp (a f - lse a) = Real.exp (a f - M) * Real.exp (-(lse a - M)) := by
    rw [← Real.exp_add]; congr 1; ring
  rw [e, ← log_shift a M, Real.exp_neg, Real.exp_log hp, one_div]

end Rows

section Total

variable {ι κ φ : Type} [Fintype ι] [Fintype κ] [DecidableEq κ] [Fintype φ]

/-- Over the reals: class counts against class terms, class sums and row terms make up the rows' sum. -/
theorem real_eq (cls : ι → κ) (p q : κ → φ → ℝ) (x : ι → φ → ℝ) (s : ι → ℝ) (hp : ∀ k, ∑ f, p k f = 1) :
    (∑ k, (∑ f, p k f * q k f) * ∑ r, (if cls r = k then (1 : ℝ) else 0))
      - (∑ k, ∑ f, p k f * ∑ r, (if cls r = k then (1 : ℝ) else 0) * x r f) + ∑ r, s r
      = ∑ r, ∑ f, p (cls r) f * (q (cls r) f - (x r f - s r)) := by
  have h1 : ∑ k, (∑ f, p k f * q k f) * ∑ r, (if cls r = k then (1 : ℝ) else 0) = ∑ r, ∑ f, p (cls r) f * q (cls r) f := by
    simp only [Finset.mul_sum]
    rw [Finset.sum_comm]
    refine Finset.sum_congr rfl fun r _ => ?_
    simp
  have h2 : ∑ k, ∑ f, p k f * ∑ r, (if cls r = k then (1 : ℝ) else 0) * x r f = ∑ r, ∑ f, p (cls r) f * x r f := by
    have e : ∀ k, ∑ f, p k f * ∑ r, (if cls r = k then (1 : ℝ) else 0) * x r f
        = ∑ r, if cls r = k then ∑ f, p k f * x r f else 0 := by
      intro k
      simp only [Finset.mul_sum]
      rw [Finset.sum_comm]
      refine Finset.sum_congr rfl fun r _ => ?_
      split_ifs <;> simp
    simp only [e]
    rw [Finset.sum_comm]
    refine Finset.sum_congr rfl fun r _ => ?_
    simp
  rw [h1, h2, ← Finset.sum_sub_distrib, ← Finset.sum_add_distrib]
  refine Finset.sum_congr rfl fun r _ => ?_
  have h3 : ∑ f, p (cls r) f * s r = s r := by rw [← Finset.sum_mul, hp, one_mul]
  calc _ = ∑ f, p (cls r) f * q (cls r) f - ∑ f, p (cls r) f * x r f + ∑ f, p (cls r) f * s r := by rw [h3]
    _ = _ := by
      rw [← Finset.sum_sub_distrib, ← Finset.sum_add_distrib]
      exact Finset.sum_congr rfl fun f _ => by ring

end Total

end Cert.Equation
-- ==== Proof.Match.lean ====
module

public import proofs.«01_k».proof.Proof.Scatter
public import proofs.«01_k».proof.Proof.Equation

@[expose] public section

set_option maxRecDepth 16384

noncomputable section

open Idealize.ShloMosaic Idealize.ShloMosaic.TcCoe Idealize.SL.Sem
open Idealize.ShloMosaic.Pointwise
open Cert.KernelIdeal.Cases (X L T mx sm one total IsLast table loss lt7)
open Cert.ReferenceIdeal.Staged (rows taken soft logsoft blended)
open Cert.Equation

/-! # The kernel's results are the reference's -/

namespace Cert.Match

/-- The maximum of a row of reals is real. -/
theorem mx_real (a : Fin 2048 → ℝ) : ∃ M : ℝ, mx (fun f => (a f : EReal)) = (M : EReal) := by
  obtain ⟨M, hM⟩ := fold_real a
  refine ⟨M, ?_⟩
  have hb : Ideal.ofBits .f32 0xFF800000#32 = ⊥ := by simp [Ideal.ofBits, Ideal.ieee]
  unfold mx
  rw [hb, hM]

/-- The softmax of a row of reals. -/
theorem sm_real (a : Fin 2048 → ℝ) (f : Fin 2048) : sm (fun f => (a f : EReal)) f = (Real.exp (a f - lse a) : EReal) := by
  obtain ⟨M, hM⟩ := mx_real a
  unfold sm
  rw [hM]
  exact soft_real a M f

/-- The log-softmax of a row of reals as the kernel writes it. -/
theorem log_kernel (a : Fin 2048 → ℝ) (f : Fin 2048) :
    (a f : EReal) - (mx (fun f => (a f : EReal)) + Ideal.log (∑ f', Ideal.exp ((a f' : EReal) - mx (fun f => (a f : EReal)))))
      = ((a f - lse a : ℝ) : EReal) := by
  obtain ⟨M, hM⟩ := mx_real a
  rw [hM, log_sum_shift, ← EReal.coe_add, ← EReal.coe_sub]
  exact congrArg _ (by ring)

/-- The log-softmax of a row of reals as the reference writes it. -/
theorem log_reference (a : Fin 2048 → ℝ) (f : Fin 2048) :
    (a f : EReal) - mx (fun f => (a f : EReal)) - Ideal.log (∑ f', Ideal.exp ((a f' : EReal) - mx (fun f => (a f : EReal))))
      = ((a f - lse a : ℝ) : EReal) := by
  obtain ⟨M, hM⟩ := mx_real a
  rw [hM, log_sum_shift, ← EReal.coe_sub, ← EReal.coe_sub]
  exact congrArg _ (by ring)

/-- The logarithm undoes the exponential. -/
theorem log_exp (a : ℝ) : Ideal.log (Real.exp a : EReal) = (a : EReal) := by
  rw [Ideal.log_coe, if_neg (not_le.mpr (Real.exp_pos a)), Real.log_exp]

/-- A choice between one and zero embeds. -/
theorem coe_choice (p : Prop) [Decidable p] : (if p then (1 : EReal) else 0) = ((if p then (1 : ℝ) else 0 : ℝ) : EReal) := by
  split_ifs <;> simp

/-- The two arrangements of the total divergence are equal on rows of reals, over any numbers of rows and classes. -/
theorem totals {ι κ : Type} [Fintype ι] [Fintype κ] [DecidableEq κ] (cls : ι → κ) (x : ι → Fin 2048 → ℝ) (t : κ → Fin 2048 → ℝ) :
    (∑ k, (∑ f, sm (fun f => (t k f : EReal)) f * ((t k f : EReal) - (mx (fun f => (t k f : EReal))
          + Ideal.log (∑ f', Ideal.exp ((t k f' : EReal) - mx (fun f => (t k f : EReal)))))))
        * ∑ r, (if cls r = k then (1 : EReal) else 0))
      - (∑ k, ∑ f, sm (fun f => (t k f : EReal)) f * ∑ r, (if cls r = k then (1 : EReal) else 0) * (x r f : EReal))
      + ∑ r, Ideal.log (∑ f, Ideal.exp (x r f : EReal))
    = ∑ r, ∑ f, sm (fun f => (t (cls r) f : EReal)) f * (Ideal.log (sm (fun f => (t (cls r) f : EReal)) f)
        - ((x r f : EReal) - mx (fun f => (x r f : EReal)) - Ideal.log (∑ f', Ideal.exp ((x r f' : EReal) - mx (fun f => (x r f : EReal)))))) := by
  have h1 : ∀ r f, (x r f : EReal) - mx (fun f => (x r f : EReal)) - Ideal.log (∑ f', Ideal.exp ((x r f' : EReal) - mx (fun f => (x r f : EReal))))
      = ((x r f - lse (x r) : ℝ) : EReal) := fun r f => log_reference (x r) f
  have h2 : ∀ k f, (t k f : EReal) - (mx (fun f => (t k f : EReal)) + Ideal.log (∑ f', Ideal.exp ((t k f' : EReal) - mx (fun f => (t k f : EReal)))))
      = ((t k f - lse (t k) : ℝ) : EReal) := fun k f => log_kernel (t k) f
  have h3 : ∀ k f, sm (fun f => (t k f : EReal)) f = (Real.exp (t k f - lse (t k)) : EReal) := fun k f => sm_real (t k) f
  have h4 : ∀ r, Ideal.log (∑ f, Ideal.exp (x r f : EReal)) = (lse (x r) : EReal) := fun r => log_sum (x r)
  simp only [h1, h2, h3, h4, log_exp, coe_choice]
  simp only [← EReal.coe_mul, ← EReal.coe_sub, ← coe_total, ← EReal.coe_add]
  exact congrArg _ (real_eq cls (fun k f => Real.exp (t k f - lse (t k))) (fun k f => t k f - lse (t k)) x (fun r => lse (x r))
    fun k => weights_sum (t k))

section Results

variable (m : (ℓ : Loc Cert.KernelIdeal.nD Cert.KernelIdeal.τ Cert.KernelIdeal.sig) → Buf (Elt Ideal) ℓ) (c : Dev Cert.KernelIdeal.nD)
variable (x : Vec Ideal Cert.ReferenceIdeal.S16384x2048 .f32) (l : Vec Ideal Cert.ReferenceIdeal.S16384 .i32)
  (tb : Vec Ideal Cert.ReferenceIdeal.S15x2048 .f32)
  (hx : ∀ r f, x (ix2 r f) = X m c r f) (hl : ∀ r, l (ix1 r) = L m c r) (ht : ∀ k f, tb (ix2 k f) = T m c k f)
variable (cls : Fin 16384 → Fin 15) (hc : ∀ r, L m c r = BitVec.ofNat 32 (cls r).val)

/-- Classes are told apart by their words. -/
theorem word_eq (j k : Fin 15) : BitVec.ofNat 32 j.val = BitVec.ofNat 32 k.val ↔ j = k := by
  revert j k; decide

include hc in
/-- A row lies in a class exactly where it has its number. -/
theorem in_class (r : Fin 16384) (k : Fin 15) : L m c r = BitVec.ofNat 32 k.val ↔ cls r = k := by
  rw [hc]
  exact word_eq _ _

include hx hl ht hc in
/-- The new table is the reference's. -/
theorem tables (k : Fin 15) (f : Fin 2048) : table m c (ix2 k f)
    = Host.scatter Cert.ReferenceIdeal.Staged.sd (fun _ b => b) tb (rows (F := Ideal) l) (blended (taken tb (rows (F := Ideal) l)) x) (ix2 k f) := by
  have hlc : ∀ r, l (ix1 r) = BitVec.ofNat 32 (cls r).val := fun r => (hl r).trans (hc r)
  have hr := Cert.ReferenceIdeal.Staged.rows_apply l cls hlc
  by_cases h : ∃ r, cls r = k
  · obtain ⟨r, hrk, hlast⟩ : ∃ r, cls r = k ∧ ∀ r', r < r' → cls r' ≠ k := by
      obtain ⟨r0, h0⟩ := h
      obtain ⟨r, hr, hmax⟩ := Finset.exists_max_image (Finset.univ.filter fun r => cls r = k) id ⟨r0, by simp [h0]⟩
      refine ⟨r, (Finset.mem_filter.mp hr).2, fun r' hlt hk => ?_⟩
      exact absurd (hmax r' (Finset.mem_filter.mpr ⟨Finset.mem_univ _, hk⟩)) (not_le.mpr hlt)
    rw [Cert.ReferenceIdeal.Staged.scatter_last _ cls hr tb _ k f r hrk hlast, Cert.ReferenceIdeal.Staged.blended_apply,
      Cert.ReferenceIdeal.Staged.taken_apply l cls hlc, hx, ht, hrk]
    exact Cert.KernelIdeal.Cases.table_hit m c k f r ⟨(in_class m c cls hc r k).mpr hrk, fun r' hlt q => hlast r' hlt ((in_class m c cls hc r' k).mp q)⟩
  · rw [Cert.ReferenceIdeal.Staged.scatter_none _ cls hr tb _ k f (fun r q => h ⟨r, q⟩), ht]
    exact Cert.KernelIdeal.Cases.table_miss m c k f fun r q => h ⟨r, (in_class m c cls hc r k).mp q⟩

variable (xr : Fin 16384 → Fin 2048 → ℝ) (tr : Fin 15 → Fin 2048 → ℝ)
  (hxr : ∀ r f, X m c r f = (xr r f : EReal)) (htr : ∀ k f, T m c k f = (tr k f : EReal))

include hxr htr hc in
/-- The kernel's total on reals. -/
theorem total_eq : total m c = ∑ r, ∑ f, sm (T m c (cls r)) f * (Ideal.log (sm (T m c (cls r)) f)
    - (X m c r f - mx (X m c r) - Ideal.log (∑ f', Ideal.exp (X m c r f' - mx (X m c r))))) := by
  have hX : X m c = fun r f => (xr r f : EReal) := funext fun r => funext fun f => hxr r f
  have hT : T m c = fun k f => (tr k f : EReal) := funext fun k => funext fun f => htr k f
  have hO : one m c = fun k r => if cls r = k then (1 : EReal) else 0 := by
    funext k r
    unfold one
    simp only [in_class m c cls hc]
  unfold total
  rw [hX, hT, hO]
  exact totals cls xr tr

include hx hl ht hc hxr htr in
/-- The loss is the reference's. -/
theorem losses (i : Cert.ReferenceIdeal.S_.Idx) : loss m c (ix2 0 0) = Cert.ReferenceIdeal.Staged.lossOf (taken tb (rows (F := Ideal) l)) x i := by
  have hlc : ∀ r, l (ix1 r) = BitVec.ofNat 32 (cls r).val := fun r => (hl r).trans (hc r)
  rw [Cert.KernelIdeal.Cases.loss_eq, Cert.ReferenceIdeal.Staged.lossOf_apply, total_eq m c cls hc xr tr hxr htr]
  refine congrArg (fun z => min (Ideal.ofBits .f32 0x47C35000#32) (max (Ideal.ofBits .f32 0x3727C5AC#32)
    (Ideal.div z (Ideal.ofBits .f32 0x46800000#32)))) ?_
  refine Finset.sum_congr rfl fun r _ => Finset.sum_congr rfl fun f _ => ?_
  rw [Cert.ReferenceIdeal.Staged.soft_apply, Cert.ReferenceIdeal.Staged.logsoft_apply]
  simp only [Cert.ReferenceIdeal.Staged.taken_apply l cls hlc, hx, ht]

end Results

end Cert.Match
-- ==== Proof.Inputs.lean ====
module

public import proofs.«01_k».proof.Pre_in_range
public import proofs.«01_k».proof.Proof.Gen.Pre_in_range
public import Idealize.ShloMosaic.Lib.Pointwise
public import Idealize.ShloMosaic.Lib.ReduceAll

@[expose] public section

set_option maxRecDepth 16384

noncomputable section

open Idealize.ShloMosaic Idealize.SL.Sem
open Cert.Pre_in_range
open Idealize.ShloMosaic.Pointwise

/-! # What the precondition says of the inputs -/

namespace Cert.Pre_in_range.Inputs

/-- A conjunction of two bits that is one has two ones. -/
theorem both : ∀ a b : BitVec 1, IntOp.andi a b = 1#1 → a = 1#1 ∧ b = 1#1 := by decide

/-- A word at least 0 and at most 14, signed, is a class. -/
theorem class_of (a : BitVec 32) (h0 : IntOp.cmpi .sge a 0#32 = 1#1) (h1 : IntOp.cmpi .sle a 14#32 = 1#1) :
    ∃ k : Fin 15, a = BitVec.ofNat 32 k.val := by
  have b : ∀ p : Bool, BitVec.ofBool p = 1#1 → p = true := by decide
  have e0 : BitVec.sle 0#32 a = true := b _ h0
  have e1 : BitVec.sle a 14#32 = true := b _ h1
  have t0 : (0 : Int) ≤ a.toInt := by
    have := of_decide_eq_true e0
    simpa using this
  have t1 : a.toInt ≤ 14 := by
    have := of_decide_eq_true e1
    simpa using this
  have ht := a.isLt
  have hc : a.toNat < 15 := by
    rw [BitVec.toInt_eq_toNat_cond] at t0 t1
    split_ifs at t0 t1 <;> omega
  exact ⟨⟨a.toNat, hc⟩, (BitVec.ofNat_toNat 32 a).symm.trans (by simp)⟩

/-- A number whose absolute value is below the infinity is real. -/
theorem real_of (a : Ideal .f32) (h : FloatOps.cmpf .olt (FloatOps.hostAbsf a) (FloatOps.ofBits (F := Ideal) .f32 0x7F800000#32) = 1#1) :
    ∃ r : ℝ, (a : EReal) = (r : EReal) := by
  have b : ∀ p : Bool, BitVec.ofBool p = 1#1 → p = true := by decide
  have hi : Ideal.ofBits .f32 0x7F800000#32 = ⊤ := by simp [Ideal.ofBits, Ideal.ieee]
  have h' : max (a : EReal) (-a) < ⊤ := by
    rw [← hi]
    exact of_decide_eq_true (b _ h)
  induction (a : EReal) using EReal.rec with
  | bot => simp at h'
  | coe r => exact ⟨r, rfl⟩
  | top => simp at h'

variable (x : FVec Ideal S16384x2048 .f32) (l : IVec S16384 32) (tb : FVec Ideal S15x2048 .f32)
  (h : fn (F := Ideal) x l tb = fun _ => 1#1)

include h in
/-- The precondition's four parts, entry by entry. -/
theorem parts : (∀ r, ∃ k : Fin 15, l (ix1 r) = BitVec.ofNat 32 k.val) ∧ (∀ r f, ∃ a : ℝ, (x (ix2 r f) : EReal) = (a : EReal))
    ∧ ∀ k f, ∃ a : ℝ, (tb (ix2 k f) : EReal) = (a : EReal) := by
  haveI : Subsingleton S_.Idx := ⟨fun a b => funext fun i => i.elim0⟩
  have h0 := congrFun h (fun i => i.elim0)
  obtain ⟨ha, hb⟩ := both _ _ h0
  obtain ⟨h1, h2⟩ := both _ _ ha
  obtain ⟨h3, h4⟩ := both _ _ hb
  refine ⟨fun r => class_of _ (Host.reduce_andi_all _ _ _ _ _ h1 (ix1 r)) (Host.reduce_andi_all _ _ _ _ _ h2 (ix1 r)),
    fun r f => real_of _ (Host.reduce_andi_all _ _ _ _ _ h3 (ix2 r f)), fun k f => real_of _ (Host.reduce_andi_all _ _ _ _ _ h4 (ix2 k f))⟩

end Cert.Pre_in_range.Inputs
-- ==== Proof.Agree.lean ====
/- The two results agree. From memories that hold the same arguments, all of them in range, the reference's two result terms
   are what the kernel's run leaves in its two result arrays. -/
module

public import proofs.«01_k».proof.Defs
public import proofs.«01_k».proof.Proof.State
public import proofs.«01_k».proof.Proof.Match
public import proofs.«01_k».proof.Proof.Inputs

@[expose] public section

noncomputable section

open Idealize.ShloMosaic Idealize.ShloMosaic.TcCoe Idealize.SL.Sem
open Idealize.ShloMosaic.Pointwise
open Cert.KernelIdeal.Cases (X L T table loss)
open Cert.ReferenceIdeal.Staged (rows taken blended lossOf)

/-! # The results agree -/

namespace Cert.Agree

/-- The one entry of a one-by-one matrix, read as a scalar. -/
theorem scalar_of (v : FVec Ideal Cert.KernelIdeal.S1x1 .f32) (h : Cert.KernelIdeal.S1x1.ShapeCasts Cert.KernelIdeal.S_)
    (i : Cert.KernelIdeal.S_.Idx) : shapeCast Cert.KernelIdeal.S_ v h i = v (ix2 0 0) := by
  refine congrArg v (funext fun a => ?_)
  match a with
  | ⟨0, _⟩ => exact Subsingleton.elim (α := Fin 1) _ _
  | ⟨1, _⟩ => exact Subsingleton.elim (α := Fin 1) _ _

variable (m : (ℓ : Loc Cert.KernelIdeal.nD Cert.KernelIdeal.τ Cert.KernelIdeal.sig) → Buf (Elt Ideal) ℓ) (c : Dev Cert.KernelIdeal.nD)
variable (x : FVec Ideal Cert.ReferenceIdeal.S16384x2048 .f32) (l : IVec Cert.ReferenceIdeal.S16384 32)
  (tb : FVec Ideal Cert.ReferenceIdeal.S15x2048 .f32)
  (hx : x = m ((c.tc : Thread Cert.KernelIdeal.nD Cert.KernelIdeal.τ).loc Cert.KernelIdeal.main_arg0))
  (hl : l = m ((c.tc : Thread Cert.KernelIdeal.nD Cert.KernelIdeal.τ).loc Cert.KernelIdeal.main_arg1))
  (ht : tb = m ((c.tc : Thread Cert.KernelIdeal.nD Cert.KernelIdeal.τ).loc Cert.KernelIdeal.main_arg2))
  (h : Cert.Pre_in_range.fn (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) = fun _ => 1#1)

include h in
/-- Arguments in range: every row has a class, and every number is real. -/
theorem in_range : (∃ cls : Fin 16384 → Fin 15, ∀ r, L m c r = BitVec.ofNat 32 (cls r).val)
    ∧ (∃ xr : Fin 16384 → Fin 2048 → ℝ, ∀ r f, X m c r f = (xr r f : EReal))
    ∧ ∃ tr : Fin 15 → Fin 2048 → ℝ, ∀ k f, T m c k f = (tr k f : EReal) := by
  obtain ⟨h1, h2, h3⟩ := Cert.Pre_in_range.Inputs.parts _ _ _ h
  choose cls hc using h1
  choose xr hxr using h2
  choose tr htr using h3
  exact ⟨⟨cls, hc⟩, ⟨xr, hxr⟩, ⟨tr, htr⟩⟩

include hx hl ht h in
/-- The first result: the kernel's loss, read as a scalar, is the reference's. -/
theorem first (hs : Cert.KernelIdeal.S1x1.ShapeCasts Cert.KernelIdeal.S_) :
    lossOf (taken tb (rows (F := Ideal) l)) x = shapeCast Cert.KernelIdeal.S_ (loss m c) hs := by
  obtain ⟨⟨cls, hc⟩, ⟨xr, hxr⟩, ⟨tr, htr⟩⟩ := in_range m c h
  funext i
  exact (Cert.Match.losses m c x l tb (fun r f => congrFun hx (ix2 r f)) (fun r => congrFun hl (ix1 r)) (fun k f => congrFun ht (ix2 k f))
    cls hc xr tr hxr htr i).symm.trans (scalar_of (loss m c) hs i).symm

include hx hl ht h in
/-- The second result: the kernel's new table is the reference's. -/
theorem second : Host.scatter Cert.ReferenceIdeal.Staged.sd (fun _ b => b) tb (rows (F := Ideal) l) (blended (taken tb (rows (F := Ideal) l)) x)
    = table m c := by
  obtain ⟨⟨cls, hc⟩, -, -⟩ := in_range m c h
  funext i
  have e : i = ix2 (i 0) (i 1) := funext fun a => by match a with
    | ⟨0, _⟩ => rfl
    | ⟨1, _⟩ => rfl
  rw [e]
  exact (Cert.Match.tables m c x l tb (fun r f => congrFun hx (ix2 r f)) (fun r => congrFun hl (ix1 r)) (fun k f => congrFun ht (ix2 k f))
    cls hc (i 0) (i 1)).symm

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.ReferenceIdeal.Run
public import proofs.«01_k».proof.Proof.State
public import proofs.«01_k».proof.Proof.Agree
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments, and declares no semaphore, so every counter stays zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2, sem_eq_zero_of_no_sems (by decide) r.2⟩)
    (Cert.ReferenceIdeal.Value.run m g)

/-- Kernel and reference compute the same loss and the same table over the extended reals. -/
theorem values [Cert.KernelIdeal.Facts] [Cert.ReferenceIdeal.Facts] [Cert.Pre_in_range.Facts] :
    algebraic_KernelIdeal_ReferenceIdeal_pre_in_range := by
  intro m g m' g' hpre hargs
  refine ⟨fun c => shapeCast Cert.KernelIdeal.S_ (Cert.KernelIdeal.Cases.loss m c) Cert.KernelIdeal.Gen.shapeCasts_S1x1_S_,
    fun c => Cert.KernelIdeal.Cases.table m c, ?_, ?_⟩
  · exact (θ_run Cert.KernelIdeal.defs _ _).mono (fun r h c => ⟨(h.1 c).1, (h.1 c).2, h.2.1 c⟩)
      (θ_run_and (Cert.KernelIdeal.Cases.run m g) (Cert.KernelIdeal.Gen.frame m g))
  · refine (θ_run Cert.ReferenceIdeal.defs _ _).mono (fun r h c => ⟨?_, ?_, (h c).2.2⟩) (Cert.ReferenceIdeal.Value.run m' g')
    · exact (h c).1.trans ((Cert.ReferenceIdeal.Staged.first_eq m' c).trans
        (Cert.Agree.first m c _ _ _ (hargs c).1 (hargs c).2.1 (hargs c).2.2 (hpre c) _))
    · exact (h c).2.1.trans ((Cert.ReferenceIdeal.Staged.second_eq m' c).trans
        (Cert.Agree.second m c _ _ _ (hargs c).1 (hargs c).2.1 (hargs c).2.2 (hpre c)))

/-- The certificate's claim. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ, trivial, values⟩

end Cert.Proof

end
